-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_v20_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v8) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x4 : Shape := ⟨2, ![1024, 4]⟩
abbrev S100000x32 : Shape := ⟨2, ![100000, 32]⟩
abbrev S1000x32 : Shape := ⟨2, ![1000, 32]⟩
abbrev S1024x1 : Shape := ⟨2, ![1024, 1]⟩
abbrev S1024 : Shape := ⟨1, ![1024]⟩
abbrev S_ : Shape := ⟨0, ![]⟩

class Facts : Prop where
  slices_S1024x4_S1024x1_0_0 : S1024x4.Slices ![0, 0] S1024x1
  shapeCasts_S1024x1_S1024 : S1024x1.ShapeCasts S1024
  slices_S1024x4_S1024x1_0_1 : S1024x4.Slices ![0, 1] S1024x1
  slices_S1024x4_S1024x1_0_2 : S1024x4.Slices ![0, 2] S1024x1
  bcast_S_S1024 : S_.BroadcastsInDim S1024 (![] : Fin 0 → Fin S1024.rank)
  reducesTo_S1024_S_d0 : S1024.ReducesTo [0] S_
  h_S_ : 0 < S_.numel

variable [Facts]

def fn_part1 {F : FTy → Type} [FloatOps F] (main_v5 : IVec S1024 32) (main_v16 : IVec S1024 1) (main_v18 : IVec S1024 1) : IVec S_ 1 :=
  let main_v19 : IVec S1024 1 := andi main_v16 main_v18
  let main_c_4 : IVec S_ 32 := constantI S_ 32 100000#32
  let main_v20 : IVec S1024 32 := broadcastInDim S1024 ![] bcast_S_S1024 main_c_4
  let main_v21 : IVec S1024 1 := cmpi .slt main_v5 main_v20
  let main_v22 : IVec S1024 1 := andi main_v19 main_v21
  let main_c_5 : IVec S_ 1 := constantI S_ 1 1#1
  let main_v23 : IVec S_ 1 := (fun x v => Host.reduce IntOp.andi x v reducesTo_S1024_S_d0 h_S_) main_v22 main_c_5
  main_v23

def fn {F : FTy → Type} [FloatOps F] (main_arg0 : IVec S1024x4 32) (main_arg1 : FVec F S100000x32 .f32) (main_arg2 : FVec F S1000x32 .f32) : IVec S_ 1 :=
  let main_v0 : IVec S1024x1 32 := (extractStridedSlice S1024x1 ![0, 0] · slices_S1024x4_S1024x1_0_0) main_arg0
  let main_v1 : IVec S1024 32 := shapeCast S1024 main_v0 shapeCasts_S1024x1_S1024
  let main_v2 : IVec S1024x1 32 := (extractStridedSlice S1024x1 ![0, 1] · slices_S1024x4_S1024x1_0_1) main_arg0
  let main_v3 : IVec S1024 32 := shapeCast S1024 main_v2 shapeCasts_S1024x1_S1024
  let main_v4 : IVec S1024x1 32 := (extractStridedSlice S1024x1 ![0, 2] · slices_S1024x4_S1024x1_0_2) main_arg0
  let main_v5 : IVec S1024 32 := shapeCast S1024 main_v4 shapeCasts_S1024x1_S1024
  let main_c : IVec S_ 32 := constantI S_ 32 0#32
  let main_v6 : IVec S1024 32 := broadcastInDim S1024 ![] bcast_S_S1024 main_c
  let main_v7 : IVec S1024 1 := cmpi .sge main_v1 main_v6
  let main_c_0 : IVec S_ 32 := constantI S_ 32 100000#32
  let main_v8 : IVec S1024 32 := broadcastInDim S1024 ![] bcast_S_S1024 main_c_0
  let main_v9 : IVec S1024 1 := cmpi .slt main_v1 main_v8
  let main_v10 : IVec S1024 1 := andi main_v7 main_v9
  let main_c_1 : IVec S_ 32 := constantI S_ 32 0#32
  let main_v11 : IVec S1024 32 := broadcastInDim S1024 ![] bcast_S_S1024 main_c_1
  let main_v12 : IVec S1024 1 := cmpi .sge main_v3 main_v11
  let main_v13 : IVec S1024 1 := andi main_v10 main_v12
  let main_c_2 : IVec S_ 32 := constantI S_ 32 1000#32
  let main_v14 : IVec S1024 32 := broadcastInDim S1024 ![] bcast_S_S1024 main_c_2
  let main_v15 : IVec S1024 1 := cmpi .slt main_v3 main_v14
  let main_v16 : IVec S1024 1 := andi main_v13 main_v15
  let main_c_3 : IVec S_ 32 := constantI S_ 32 0#32
  let main_v17 : IVec S1024 32 := broadcastInDim S1024 ![] bcast_S_S1024 main_c_3
  let main_v18 : IVec S1024 1 := cmpi .sge main_v5 main_v17
  fn_part1 (F := F) main_v5 main_v16 main_v18
-- ==== Kernel.lean ====
abbrev S1024x4 : Shape := ⟨2, ![1024, 4]⟩
abbrev S100000x32 : Shape := ⟨2, ![100000, 32]⟩
abbrev S1000x32 : Shape := ⟨2, ![1000, 32]⟩
abbrev S1024x1 : Shape := ⟨2, ![1024, 1]⟩
abbrev S1024 : Shape := ⟨1, ![1024]⟩
abbrev S25000x128 : Shape := ⟨2, ![25000, 128]⟩
abbrev S250x128 : Shape := ⟨2, ![250, 128]⟩
abbrev S_ : Shape := ⟨0, ![]⟩
abbrev S1024x128 : Shape := ⟨2, ![1024, 128]⟩
abbrev S32 : Shape := ⟨1, ![32]⟩
abbrev S32x128 : Shape := ⟨2, ![32, 128]⟩
abbrev S32x100000 : Shape := ⟨2, ![32, 100000]⟩
abbrev S32x100352 : Shape := ⟨2, ![32, 100352]⟩
abbrev S100000x1024 : Shape := ⟨2, ![100000, 1024]⟩
abbrev S1024x32 : Shape := ⟨2, ![1024, 32]⟩
abbrev S32x2048 : Shape := ⟨2, ![32, 2048]⟩
abbrev S4x512x1024 : Shape := ⟨3, ![4, 512, 1024]⟩
abbrev S4 : Shape := ⟨1, ![4]⟩
abbrev S1 : Shape := ⟨1, ![1]⟩
abbrev S512x1024 : Shape := ⟨2, ![512, 1024]⟩
abbrev S1x512x1024 : Shape := ⟨3, ![1, 512, 1024]⟩
abbrev S32x512 : Shape := ⟨2, ![32, 512]⟩
abbrev S160x1024 : Shape := ⟨2, ![160, 1024]⟩
abbrev S1x160x1024 : Shape := ⟨3, ![1, 160, 1024]⟩
abbrev S1024x100000 : Shape := ⟨2, ![1024, 100000]⟩

abbrev nBuf : Table → Nat
  | .hbm => 146
  | .local .tc .vmem => 13
  | .local .scVector .vmem => 6
  | _ => 0

abbrev hbmTy0_0 (i : Nat) : BufTy := match i % 128 with
  | 0 => ⟨S1024x4, .i32⟩
  | 1 => ⟨S100000x32, .f32⟩
  | 2 => ⟨S1000x32, .f32⟩
  | 3 => ⟨S1024x1, .i32⟩
  | 4 => ⟨S1024, .i32⟩
  | 5 => ⟨S1024x1, .i32⟩
  | 6 => ⟨S1024, .i32⟩
  | 7 => ⟨S1024x1, .i32⟩
  | 8 => ⟨S1024, .i32⟩
  | 9 => ⟨S25000x128, .f32⟩
  | 10 => ⟨S250x128, .f32⟩
  | 11 => ⟨S_, .i32⟩
  | 12 => ⟨S_, .i32⟩
  | 13 => ⟨S1024, .i32⟩
  | 14 => ⟨S1024, .i32⟩
  | 15 => ⟨S1024, .i32⟩
  | 16 => ⟨S_, .i32⟩
  | 17 => ⟨S1024, .i32⟩
  | 18 => ⟨S1024, .i1⟩
  | 19 => ⟨S1024, .i32⟩
  | 20 => ⟨S1024, .i32⟩
  | 21 => ⟨S_, .i32⟩
  | 22 => ⟨S1024, .i32⟩
  | 23 => ⟨S1024, .i1⟩
  | 24 => ⟨S1024, .i1⟩
  | 25 => ⟨S_, .i32⟩
  | 26 => ⟨S1024, .i32⟩
  | 27 => ⟨S1024, .i32⟩
  | 28 => ⟨S1024, .i32⟩
  | 29 => ⟨S_, .i32⟩
  | 30 => ⟨S_, .i32⟩
  | 31 => ⟨S1024, .i32⟩
  | 32 => ⟨S1024, .i32⟩
  | 33 => ⟨S1024, .i32⟩
  | 34 => ⟨S_, .i32⟩
  | 35 => ⟨S1024, .i32⟩
  | 36 => ⟨S1024, .i1⟩
  | 37 => ⟨S1024, .i32⟩
  | 38 => ⟨S1024, .i32⟩
  | 39 => ⟨S_, .i32⟩
  | 40 => ⟨S1024, .i32⟩
  | 41 => ⟨S1024, .i1⟩
  | 42 => ⟨S1024, .i1⟩
  | 43 => ⟨S_, .i32⟩
  | 44 => ⟨S1024, .i32⟩
  | 45 => ⟨S1024, .i32⟩
  | 46 => ⟨S1024, .i32⟩
  | 47 => ⟨S_, .i32⟩
  | 48 => ⟨S_, .i32⟩
  | 49 => ⟨S1024, .i32⟩
  | 50 => ⟨S1024, .i32⟩
  | 51 => ⟨S1024, .i32⟩
  | 52 => ⟨S_, .i32⟩
  | 53 => ⟨S1024, .i32⟩
  | 54 => ⟨S1024, .i1⟩
  | 55 => ⟨S1024, .i32⟩
  | 56 => ⟨S1024, .i32⟩
  | 57 => ⟨S_, .i32⟩
  | 58 => ⟨S1024, .i32⟩
  | 59 => ⟨S1024, .i1⟩
  | 60 => ⟨S1024, .i1⟩
  | 61 => ⟨S_, .i32⟩
  | 62 => ⟨S1024, .i32⟩
  | 63 => ⟨S1024, .i32⟩
  | 64 => ⟨S1024, .i32⟩
  | 65 => ⟨S1024x128, .f32⟩
  | 66 => ⟨S1024x128, .f32⟩
  | 67 => ⟨S1024x128, .f32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S1024, .i32⟩
  | 75 => ⟨S1024, .i32⟩
  | 76 => ⟨S_, .i32⟩
  | 77 => ⟨S1024, .i32⟩
  | 78 => ⟨S1024, .i1⟩
  | 79 => ⟨S_, .i32⟩
  | 80 => ⟨S1024, .i32⟩
  | 81 => ⟨S1024, .i1⟩
  | 82 => ⟨S_, .i32⟩
  | 83 => ⟨S_, .i1⟩
  | 84 => ⟨S1024, .i1⟩
  | 85 => ⟨S1024, .i1⟩
  | 86 => ⟨S1024, .i1⟩
  | 87 => ⟨S1024, .i32⟩
  | 88 => ⟨S1024, .i32⟩
  | 89 => ⟨S1024, .i32⟩
  | 90 => ⟨S1024x1, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S1024, .i32⟩
  | 98 => ⟨S1024, .i32⟩
  | 99 => ⟨S_, .i32⟩
  | 100 => ⟨S1024, .i32⟩
  | 101 => ⟨S1024, .i1⟩
  | 102 => ⟨S_, .i32⟩
  | 103 => ⟨S1024, .i32⟩
  | 104 => ⟨S1024, .i1⟩
  | 105 => ⟨S_, .i32⟩
  | 106 => ⟨S_, .i1⟩
  | 107 => ⟨S1024, .i1⟩
  | 108 => ⟨S1024, .i1⟩
  | 109 => ⟨S1024, .i1⟩
  | 110 => ⟨S1024, .i32⟩
  | 111 => ⟨S1024, .i32⟩
  | 112 => ⟨S1024, .i32⟩
  | 113 => ⟨S1024x1, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S1024, .i32⟩
  | 121 => ⟨S1024, .i32⟩
  | 122 => ⟨S_, .i32⟩
  | 123 => ⟨S1024, .i32⟩
  | 124 => ⟨S1024, .i1⟩
  | 125 => ⟨S_, .i32⟩
  | 126 => ⟨S1024, .i32⟩
  | 127 => ⟨S1024, .i1⟩
  | _ => ⟨S1024x4, .i32⟩

abbrev hbmTy0_1 (i : Nat) : BufTy := match i % 128 with
  | 0 => ⟨S_, .i32⟩
  | 1 => ⟨S_, .i1⟩
  | 2 => ⟨S1024, .i1⟩
  | 3 => ⟨S1024, .i1⟩
  | 4 => ⟨S1024, .i1⟩
  | 5 => ⟨S1024, .i32⟩
  | 6 => ⟨S1024, .i32⟩
  | 7 => ⟨S1024, .i32⟩
  | 8 => ⟨S1024x1, .i32⟩
  | 9 => ⟨S32x100000, .f32⟩
  | 10 => ⟨S_, .i32⟩
  | 11 => ⟨S_, .f32⟩
  | 12 => ⟨S32x100352, .f32⟩
  | 13 => ⟨S100000x1024, .f32⟩
  | 14 => ⟨S1024x32, .f32⟩
  | 15 => ⟨S1024x32, .f32⟩
  | 16 => ⟨S1024x32, .f32⟩
  | 17 => ⟨S1024x100000, .f32⟩
  | _ => ⟨S1024x4, .i32⟩

abbrev hbmTy (i : Nat) : BufTy := match i / 128 with
  | 0 => hbmTy0_0 i
  | 1 => hbmTy0_1 i
  | _ => ⟨S1024x4, .i32⟩

abbrev bufTy : (tb : Table) → Fin (nBuf tb) → BufTy
  | .hbm, ⟨i, _⟩ => hbmTy i
  | .local .tc .vmem, ⟨0, _⟩ => ⟨S32x2048, .f32⟩
  | .local .tc .vmem, ⟨1, _⟩ => ⟨S32x2048, .f32⟩
  | .local .tc .vmem, ⟨2, _⟩ => ⟨S1024x128, .f32⟩
  | .local .tc .vmem, ⟨3, _⟩ => ⟨S1024x128, .f32⟩
  | .local .tc .vmem, ⟨4, _⟩ => ⟨S1024x128, .f32⟩
  | .local .tc .vmem, ⟨5, _⟩ => ⟨S1024x1, .i32⟩
  | .local .tc .vmem, ⟨6, _⟩ => ⟨S1024x1, .i32⟩
  | .local .tc .vmem, ⟨7, _⟩ => ⟨S1024x1, .i32⟩
  | .local .tc .vmem, ⟨8, _⟩ => ⟨S1024x32, .f32⟩
  | .local .tc .vmem, ⟨9, _⟩ => ⟨S1024x32, .f32⟩
  | .local .tc .vmem, ⟨10, _⟩ => ⟨S1024x32, .f32⟩
  | .local .tc .vmem, ⟨11, _⟩ => ⟨S4x512x1024, .f32⟩
  | .local .tc .vmem, ⟨12, _⟩ => ⟨S1024x32, .bf16⟩
  | .local .scVector .vmem, ⟨0, _⟩ => ⟨S32, .i32⟩
  | .local .scVector .vmem, ⟨1, _⟩ => ⟨S32x128, .f32⟩
  | .local .scVector .vmem, ⟨2, _⟩ => ⟨S32, .i32⟩
  | .local .scVector .vmem, ⟨3, _⟩ => ⟨S32x128, .f32⟩
  | .local .scVector .vmem, ⟨4, _⟩ => ⟨S32, .i32⟩
  | .local .scVector .vmem, ⟨5, _⟩ => ⟨S32x128, .f32⟩
  | _, _ => ⟨S1024x4, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v8 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v9 : Ref sig .tc := ⟨.hbm, 46, rfl⟩
abbrev main_c_1 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_c : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_0 : Ref sig .tc := ⟨.hbm, 61, rfl⟩
abbrev main_call2_v12 : Ref sig .tc := ⟨.hbm, 62, rfl⟩
abbrev main_call2_v13 : Ref sig .tc := ⟨.hbm, 63, rfl⟩
abbrev main_v10 : Ref sig .tc := ⟨.hbm, 64, rfl⟩
abbrev main_v11_0 : Ref sig .tc := ⟨.hbm, 65, rfl⟩
abbrev main_v11_1 : Ref sig .tc := ⟨.hbm, 66, rfl⟩
abbrev main_v11_2 : Ref sig .tc := ⟨.hbm, 67, rfl⟩
abbrev main_c_2 : Ref sig .tc := ⟨.hbm, 68, rfl⟩
abbrev main_call3_v0 : Ref sig .tc := ⟨.hbm, 69, rfl⟩
abbrev main_call3_c : Ref sig .tc := ⟨.hbm, 70, rfl⟩
abbrev main_call3_v1 : Ref sig .tc := ⟨.hbm, 71, rfl⟩
abbrev main_call3_c_0 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_c_1 : Ref sig .tc := ⟨.hbm, 76, rfl⟩
abbrev main_call3_v5 : Ref sig .tc := ⟨.hbm, 77, rfl⟩
abbrev main_call3_v6 : Ref sig .tc := ⟨.hbm, 78, rfl⟩
abbrev main_call3_c_2 : Ref sig .tc := ⟨.hbm, 79, rfl⟩
abbrev main_call3_v7 : Ref sig .tc := ⟨.hbm, 80, rfl⟩
abbrev main_call3_v8 : Ref sig .tc := ⟨.hbm, 81, rfl⟩
abbrev main_call3_c_3 : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_v12 : Ref sig .tc := ⟨.hbm, 86, rfl⟩
abbrev main_call3_v13 : Ref sig .tc := ⟨.hbm, 87, rfl⟩
abbrev main_call3_v14 : Ref sig .tc := ⟨.hbm, 88, rfl⟩
abbrev main_v12 : Ref sig .tc := ⟨.hbm, 89, rfl⟩
abbrev main_v13 : Ref sig .tc := ⟨.hbm, 90, rfl⟩
abbrev main_c_3 : Ref sig .tc := ⟨.hbm, 91, rfl⟩
abbrev main_call4_v0 : Ref sig .tc := ⟨.hbm, 92, rfl⟩
abbrev main_call4_c : Ref sig .tc := ⟨.hbm, 93, rfl⟩
abbrev main_call4_v1 : Ref sig .tc := ⟨.hbm, 94, rfl⟩
abbrev main_call4_c_0 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_call4_c_1 : Ref sig .tc := ⟨.hbm, 99, rfl⟩
abbrev main_call4_v5 : Ref sig .tc := ⟨.hbm, 100, rfl⟩
abbrev main_call4_v6 : Ref sig .tc := ⟨.hbm, 101, rfl⟩
abbrev main_call4_c_2 : Ref sig .tc := ⟨.hbm, 102, rfl⟩
abbrev main_call4_v7 : Ref sig .tc := ⟨.hbm, 103, rfl⟩
abbrev main_call4_v8 : Ref sig .tc := ⟨.hbm, 104, rfl⟩
abbrev main_call4_c_3 : Ref sig .tc := ⟨.hbm, 105, rfl⟩
abbrev main_call4_v9 : Ref sig .tc := ⟨.hbm, 106, rfl⟩
abbrev main_call4_v10 : Ref sig .tc := ⟨.hbm, 107, rfl⟩
abbrev main_call4_v11 : Ref sig .tc := ⟨.hbm, 108, rfl⟩
abbrev main_call4_v12 : Ref sig .tc := ⟨.hbm, 109, rfl⟩
abbrev main_call4_v13 : Ref sig .tc := ⟨.hbm, 110, rfl⟩
abbrev main_call4_v14 : Ref sig .tc := ⟨.hbm, 111, rfl⟩
abbrev main_v14 : Ref sig .tc := ⟨.hbm, 112, rfl⟩
abbrev main_v15 : Ref sig .tc := ⟨.hbm, 113, rfl⟩
abbrev main_c_4 : Ref sig .tc := ⟨.hbm, 114, rfl⟩
abbrev main_call5_v0 : Ref sig .tc := ⟨.hbm, 115, rfl⟩
abbrev main_call5_c : Ref sig .tc := ⟨.hbm, 116, rfl⟩
abbrev main_call5_v1 : Ref sig .tc := ⟨.hbm, 117, rfl⟩
abbrev main_call5_c_0 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_call5_c_1 : Ref sig .tc := ⟨.hbm, 122, rfl⟩
abbrev main_call5_v5 : Ref sig .tc := ⟨.hbm, 123, rfl⟩
abbrev main_call5_v6 : Ref sig .tc := ⟨.hbm, 124, rfl⟩
abbrev main_call5_c_2 : Ref sig .tc := ⟨.hbm, 125, rfl⟩
abbrev main_call5_v7 : Ref sig .tc := ⟨.hbm, 126, rfl⟩
abbrev main_call5_v8 : Ref sig .tc := ⟨.hbm, 127, rfl⟩
abbrev main_call5_c_3 : Ref sig .tc := ⟨.hbm, 128, rfl⟩
abbrev main_call5_v9 : Ref sig .tc := ⟨.hbm, 129, rfl⟩
abbrev main_call5_v10 : Ref sig .tc := ⟨.hbm, 130, rfl⟩
abbrev main_call5_v11 : Ref sig .tc := ⟨.hbm, 131, rfl⟩
abbrev main_call5_v12 : Ref sig .tc := ⟨.hbm, 132, rfl⟩
abbrev main_call5_v13 : Ref sig .tc := ⟨.hbm, 133, rfl⟩
abbrev main_call5_v14 : Ref sig .tc := ⟨.hbm, 134, rfl⟩
abbrev main_v16 : Ref sig .tc := ⟨.hbm, 135, rfl⟩
abbrev main_v17 : Ref sig .tc := ⟨.hbm, 136, rfl⟩
abbrev main_v18 : Ref sig .tc := ⟨.hbm, 137, rfl⟩
abbrev main_c_5 : Ref sig .tc := ⟨.hbm, 138, rfl⟩
abbrev main_call6_v0 : Ref sig .tc := ⟨.hbm, 139, rfl⟩
abbrev main_v19 : Ref sig .tc := ⟨.hbm, 140, rfl⟩
abbrev main_v20_0 : Ref sig .tc := ⟨.hbm, 141, rfl⟩
abbrev main_v20_1 : Ref sig .tc := ⟨.hbm, 142, rfl⟩
abbrev main_v20_2 : Ref sig .tc := ⟨.hbm, 143, rfl⟩
abbrev main_v20_3 : Ref sig .tc := ⟨.hbm, 144, rfl⟩
abbrev main_v21 : Ref sig .tc := ⟨.hbm, 145, rfl⟩
abbrev main_v6_scv : Ref sig .scVector := ⟨.hbm, 9, rfl⟩
abbrev main_v7_scv : Ref sig .scVector := ⟨.hbm, 10, rfl⟩
abbrev main_v8_scv : Ref sig .scVector := ⟨.hbm, 28, rfl⟩
abbrev main_v9_scv : Ref sig .scVector := ⟨.hbm, 46, rfl⟩
abbrev main_v10_scv : Ref sig .scVector := ⟨.hbm, 64, rfl⟩
abbrev main_v11_0_scv : Ref sig .scVector := ⟨.hbm, 65, rfl⟩
abbrev main_v11_1_scv : Ref sig .scVector := ⟨.hbm, 66, rfl⟩
abbrev main_v11_2_scv : Ref sig .scVector := ⟨.hbm, 67, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg8_0 : Ref sig .tc := ⟨.vmem, 9, rfl⟩
abbrev cc1_stg9_0 : Ref sig .tc := ⟨.vmem, 10, rfl⟩
abbrev cc1_scratch0 : Ref sig .tc := ⟨.vmem, 11, rfl⟩
abbrev cc1_scratch1 : Ref sig .tc := ⟨.vmem, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_11_r3 : BitVec 32 := 0#32
  ![v2.toNat, 0]
abbrev grid1 : Pipeline.Grid := ⟨1, ![49], ![false]⟩

def k1_cond2 (i : grid1.Coords) : BitVec 1 :=
  let arg0 : BitVec 32 := BitVec.ofNat 32 (i 0).val
  let c0_i32_2 : BitVec 32 := 0#32
  let v4 : BitVec 1 := Scalar.cmpi .sgt arg0 c0_i32_2
  let v5 : BitVec 32 := Scalar.extui v4
  let c0_i32_3 : BitVec 32 := 0#32
  let v6 : BitVec 1 := Scalar.cmpi .ne v5 c0_i32_3
  v6

def k1_off1 (i : grid1.Coords) : Fin 2 → Nat :=
  let arg0 : BitVec 32 := BitVec.ofNat 32 (i 0).val
  let c1_i32_52 : BitVec 32 := 1#32
  let v77 : BitVec 32 := Scalar.subi arg0 c1_i32_52
  let c4_i32_53 : BitVec 32 := 4#32
  let v78 : BitVec 32 := Scalar.muli v77 c4_i32_53
  let c0_i32_54 : BitVec 32 := 0#32
  let v79 : BitVec 32 := Scalar.addi v78 c0_i32_54
  let c512_i32_55 : BitVec 32 := 512#32
  let v80 : BitVec 32 := Scalar.muli v79 c512_i32_55
  let c0_i32_58 : BitVec 32 := 0#32
  ![v80.toNat, 0]
def k1_off2 (i : grid1.Coords) (c0_i32_9 : BitVec 32) : Fin 2 → Nat :=
  let arg0 : BitVec 32 := BitVec.ofNat 32 (i 0).val
  let c4_i32 : BitVec 32 := 4#32
  let v14 : BitVec 32 := Scalar.muli arg0 c4_i32
  let v15 : BitVec 32 := Scalar.addi v14 c0_i32_9
  let c512_i32 : BitVec 32 := 512#32
  let v16 : BitVec 32 := Scalar.muli v15 c512_i32
  let c0_i32_12 : BitVec 32 := 0#32
  ![v16.toNat, 0]
def k1_cond3 (i : grid1.Coords) : BitVec 1 :=
  let arg0 : BitVec 32 := BitVec.ofNat 32 (i 0).val
  let c0_i32_15 : BitVec 32 := 0#32
  let v22 : BitVec 1 := Scalar.cmpi .sgt arg0 c0_i32_15
  let v23 : BitVec 32 := Scalar.extui v22
  let c0_i32_16 : BitVec 32 := 0#32
  let v24 : BitVec 1 := Scalar.cmpi .ne v23 c0_i32_16
  v24

def k1_off3 (i : grid1.Coords) : Fin 2 → Nat :=
  let arg0 : BitVec 32 := BitVec.ofNat 32 (i 0).val
  let c1_i32_52 : BitVec 32 := 1#32
  let v77 : BitVec 32 := Scalar.subi arg0 c1_i32_52
  let c4_i32_53 : BitVec 32 := 4#32
  let v78 : BitVec 32 := Scalar.muli v77 c4_i32_53
  let c1_i32_54 : BitVec 32 := 1#32
  let v79 : BitVec 32 := Scalar.addi v78 c1_i32_54
  let c512_i32_55 : BitVec 32 := 512#32
  let v80 : BitVec 32 := Scalar.muli v79 c512_i32_55
  let c0_i32_58 : BitVec 32 := 0#32
  ![v80.toNat, 0]
def k1_cond4 (i : grid1.Coords) : BitVec 1 :=
  let arg0 : BitVec 32 := BitVec.ofNat 32 (i 0).val
  let c0_i32_28 : BitVec 32 := 0#32
  let v40 : BitVec 1 := Scalar.cmpi .sgt arg0 c0_i32_28
  let v41 : BitVec 32 := Scalar.extui v40
  let c0_i32_29 : BitVec 32 := 0#32
  let v42 : BitVec 1 := Scalar.cmpi .ne v41 c0_i32_29
  v42

def k1_off4 (i : grid1.Coords) : Fin 2 → Nat :=
  let arg0 : BitVec 32 := BitVec.ofNat 32 (i 0).val
  let c1_i32_52 : BitVec 32 := 1#32
  let v77 : BitVec 32 := Scalar.subi arg0 c1_i32_52
  let c4_i32_53 : BitVec 32 := 4#32
  let v78 : BitVec 32 := Scalar.muli v77 c4_i32_53
  let c2_i32_54 : BitVec 32 := 2#32
  let v79 : BitVec 32 := Scalar.addi v78 c2_i32_54
  let c512_i32_55 : BitVec 32 := 512#32
  let v80 : BitVec 32 := Scalar.muli v79 c512_i32_55
  let c0_i32_58 : BitVec 32 := 0#32
  ![v80.toNat, 0]
def k1_cond5 (i : grid1.Coords) : BitVec 1 :=
  let arg0 : BitVec 32 := BitVec.ofNat 32 (i 0).val
  let c0_i32_41 : BitVec 32 := 0#32
  let v58 : BitVec 1 := Scalar.cmpi .sgt arg0 c0_i32_41
  let v59 : BitVec 32 := Scalar.extui v58
  let c0_i32_42 : BitVec 32 := 0#32
  let v60 : BitVec 1 := Scalar.cmpi .ne v59 c0_i32_42
  v60

def k1_off5 (i : grid1.Coords) : Fin 2 → Nat :=
  let arg0 : BitVec 32 := BitVec.ofNat 32 (i 0).val
  let c1_i32_52 : BitVec 32 := 1#32
  let v77 : BitVec 32 := Scalar.subi arg0 c1_i32_52
  let c4_i32_53 : BitVec 32 := 4#32
  let v78 : BitVec 32 := Scalar.muli v77 c4_i32_53
  let c3_i32 : BitVec 32 := 3#32
  let v79 : BitVec 32 := Scalar.addi v78 c3_i32
  let c512_i32_54 : BitVec 32 := 512#32
  let v80 : BitVec 32 := Scalar.muli v79 c512_i32_54
  let c0_i32_57 : BitVec 32 := 0#32
  ![v80.toNat, 0]
def k1_cond6 (i : grid1.Coords) : BitVec 1 :=
  let arg0 : BitVec 32 := BitVec.ofNat 32 (i 0).val
  let c48_i32 : BitVec 32 := 48#32
  let v68 : BitVec 1 := Scalar.cmpi .slt arg0 c48_i32
  let v69 : BitVec 32 := Scalar.extui v68
  let c0_i32_47 : BitVec 32 := 0#32
  let v70 : BitVec 1 := Scalar.cmpi .ne v69 c0_i32_47
  v70

def k1_off6 (i : grid1.Coords) : Fin 2 → Nat :=
  let arg0 : BitVec 32 := BitVec.ofNat 32 (i 0).val
  let c4_i32_52 : BitVec 32 := 4#32
  let v77 : BitVec 32 := Scalar.muli arg0 c4_i32_52
  let c3_i32 : BitVec 32 := 3#32
  let v78 : BitVec 32 := Scalar.addi v77 c3_i32
  let c512_i32_53 : BitVec 32 := 512#32
  let v79 : BitVec 32 := Scalar.muli v78 c512_i32_53
  let c0_i32_56 : BitVec 32 := 0#32
  ![v79.toNat, 0]
def k1_cond7 (i : grid1.Coords) : BitVec 1 :=
  let arg0 : BitVec 32 := BitVec.ofNat 32 (i 0).val
  let c48_i32_48 : BitVec 32 := 48#32
  let v71 : BitVec 1 := Scalar.cmpi .eq arg0 c48_i32_48
  let v72 : BitVec 32 := Scalar.extui v71
  let c0_i32_49 : BitVec 32 := 0#32
  let v73 : BitVec 1 := Scalar.cmpi .ne v72 c0_i32_49
  v73

def k1_off7 (i : grid1.Coords) : Fin 2 → Nat :=
  let arg0 : BitVec 32 := BitVec.ofNat 32 (i 0).val
  let c4_i32_52 : BitVec 32 := 4#32
  let v77 : BitVec 32 := Scalar.muli arg0 c4_i32_52
  let c3_i32 : BitVec 32 := 3#32
  let v78 : BitVec 32 := Scalar.addi v77 c3_i32
  let c512_i32_53 : BitVec 32 := 512#32
  let v79 : BitVec 32 := Scalar.muli v78 c512_i32_53
  let c0_i32_56 : BitVec 32 := 0#32
  ![v79.toNat, 0]
def k1_cond8 (i : grid1.Coords) : BitVec 1 :=
  let arg0 : BitVec 32 := BitVec.ofNat 32 (i 0).val
  let c48_i32_50 : BitVec 32 := 48#32
  let v74 : BitVec 1 := Scalar.cmpi .eq arg0 c48_i32_50
  let v75 : BitVec 32 := Scalar.extui v74
  let c0_i32_51 : BitVec 32 := 0#32
  let v76 : BitVec 1 := Scalar.cmpi .ne v75 c0_i32_51
  v76

def k1_off8 (i : grid1.Coords) (c0_i32_53 : BitVec 32) : Fin 2 → Nat :=
  let arg0 : BitVec 32 := BitVec.ofNat 32 (i 0).val
  let c4_i32_52 : BitVec 32 := 4#32
  let v77 : BitVec 32 := Scalar.muli arg0 c4_i32_52
  let v78 : BitVec 32 := Scalar.addi v77 c0_i32_53
  let c512_i32_54 : BitVec 32 := 512#32
  let v79 : BitVec 32 := Scalar.muli v78 c512_i32_54
  let c0_i32_57 : BitVec 32 := 0#32
  ![v79.toNat, 0]
def k1_off9 (i : grid1.Coords) : Fin 2 → Nat :=
  let arg0 : BitVec 32 := BitVec.ofNat 32 (i 0).val
  let c4_i32_76 : BitVec 32 := 4#32
  let v101 : BitVec 32 := Scalar.muli arg0 c4_i32_76
  let c4_i32_77 : BitVec 32 := 4#32
  let v102 : BitVec 32 := Scalar.addi v101 c4_i32_77
  let c1_i32_78 : BitVec 32 := 1#32
  let v103 : BitVec 32 := Scalar.subi v102 c1_i32_78
  let c512_i32_79 : BitVec 32 := 512#32
  let v104 : BitVec 32 := Scalar.muli v103 c512_i32_79
  let c0_i32_81 : BitVec 32 := 0#32
  ![v104.toNat, 0]
def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x4 : Shape := ⟨2, ![1024, 4]⟩
abbrev S100000x32 : Shape := ⟨2, ![100000, 32]⟩
abbrev S1000x32 : Shape := ⟨2, ![1000, 32]⟩
abbrev S1024x1 : Shape := ⟨2, ![1024, 1]⟩
abbrev S1024 : Shape := ⟨1, ![1024]⟩
abbrev S_ : Shape := ⟨0, ![]⟩
abbrev S1 : Shape := ⟨1, ![1]⟩
abbrev S1x1 : Shape := ⟨2, ![1, 1]⟩
abbrev S1024x32 : Shape := ⟨2, ![1024, 32]⟩
abbrev S32x100000 : Shape := ⟨2, ![32, 100000]⟩
abbrev S1024x100000 : Shape := ⟨2, ![1024, 100000]⟩

abbrev nBuf : Space → Nat
  | .hbm => 81
  | .vmem => 0
  | .smem => 0
  | _ => 0

abbrev bufTy : (tb : Table) → Fin (tcTables nBuf tb) → BufTy
  | .hbm, ⟨0, _⟩ => ⟨S1024x4, .i32⟩
  | .hbm, ⟨1, _⟩ => ⟨S100000x32, .f32⟩
  | .hbm, ⟨2, _⟩ => ⟨S1000x32, .f32⟩
  | .hbm, ⟨3, _⟩ => ⟨S1024x1, .i32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1, .i32⟩
  | .hbm, ⟨14, _⟩ => ⟨S_, .i32⟩
  | .hbm, ⟨15, _⟩ => ⟨S1024x1, .i32⟩
  | .hbm, ⟨16, _⟩ => ⟨S1024x1, .i1⟩
  | .hbm, ⟨17, _⟩ => ⟨S1x1, .i32⟩
  | .hbm, ⟨18, _⟩ => ⟨S1024x1, .i32⟩
  | .hbm, ⟨19, _⟩ => ⟨S1024x1, .i1⟩
  | .hbm, ⟨20, _⟩ => ⟨S1024x1, .i1⟩
  | .hbm, ⟨21, _⟩ => ⟨S_, .i1⟩
  | .hbm, ⟨22, _⟩ => ⟨S1024, .i1⟩
  | .hbm, ⟨23, _⟩ => ⟨S1024x32, .f32⟩
  | .hbm, ⟨24, _⟩ => ⟨S1024x32, .i1⟩
  | .hbm, ⟨25, _⟩ => ⟨S_, .f32⟩
  | .hbm, ⟨26, _⟩ => ⟨S1024x32, .f32⟩
  | .hbm, ⟨27, _⟩ => ⟨S1024x32, .f32⟩
  | .hbm, ⟨28, _⟩ => ⟨S1024x1, .i32⟩
  | .hbm, ⟨29, _⟩ => ⟨S1024, .i32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S1024x1, .i32⟩
  | .hbm, ⟨38, _⟩ => ⟨S1, .i32⟩
  | .hbm, ⟨39, _⟩ => ⟨S_, .i32⟩
  | .hbm, ⟨40, _⟩ => ⟨S1024x1, .i32⟩
  | .hbm, ⟨41, _⟩ => ⟨S1024x1, .i1⟩
  | .hbm, ⟨42, _⟩ => ⟨S1x1, .i32⟩
  | .hbm, ⟨43, _⟩ => ⟨S1024x1, .i32⟩
  | .hbm, ⟨44, _⟩ => ⟨S1024x1, .i1⟩
  | .hbm, ⟨45, _⟩ => ⟨S1024x1, .i1⟩
  | .hbm, ⟨46, _⟩ => ⟨S_, .i1⟩
  | .hbm, ⟨47, _⟩ => ⟨S1024, .i1⟩
  | .hbm, ⟨48, _⟩ => ⟨S1024x32, .f32⟩
  | .hbm, ⟨49, _⟩ => ⟨S1024x32, .i1⟩
  | .hbm, ⟨50, _⟩ => ⟨S_, .f32⟩
  | .hbm, ⟨51, _⟩ => ⟨S1024x32, .f32⟩
  | .hbm, ⟨52, _⟩ => ⟨S1024x32, .f32⟩
  | .hbm, ⟨53, _⟩ => ⟨S1024x1, .i32⟩
  | .hbm, ⟨54, _⟩ => ⟨S1024, .i32⟩
  | .hbm, ⟨55, _⟩ => ⟨S_, .i32⟩
  | .hbm, ⟨56, _⟩ => ⟨S1024, .i32⟩
  | .hbm, ⟨57, _⟩ => ⟨S1024, .i1⟩
  | .hbm, ⟨58, _⟩ => ⟨S_, .i32⟩
  | .hbm, ⟨59, _⟩ => ⟨S1024, .i32⟩
  | .hbm, ⟨60, _⟩ => ⟨S1024, .i32⟩
  | .hbm, ⟨61, _⟩ => ⟨S1024, .i32⟩
  | .hbm, ⟨62, _⟩ => ⟨S1024x1, .i32⟩
  | .hbm, ⟨63, _⟩ => ⟨S1, .i32⟩
  | .hbm, ⟨64, _⟩ => ⟨S_, .i32⟩
  | .hbm, ⟨65, _⟩ => ⟨S1024x1, .i32⟩
  | .hbm, ⟨66, _⟩ => ⟨S1024x1, .i1⟩
  | .hbm, ⟨67, _⟩ => ⟨S1x1, .i32⟩
  | .hbm, ⟨68, _⟩ => ⟨S1024x1, .i32⟩
  | .hbm, ⟨69, _⟩ => ⟨S1024x1, .i1⟩
  | .hbm, ⟨70, _⟩ => ⟨S1024x1, .i1⟩
  | .hbm, ⟨71, _⟩ => ⟨S_, .i1⟩
  | .hbm, ⟨72, _⟩ => ⟨S1024, .i1⟩
  | .hbm, ⟨73, _⟩ => ⟨S1024x32, .f32⟩
  | .hbm, ⟨74, _⟩ => ⟨S1024x32, .i1⟩
  | .hbm, ⟨75, _⟩ => ⟨S_, .f32⟩
  | .hbm, ⟨76, _⟩ => ⟨S1024x32, .f32⟩
  | .hbm, ⟨77, _⟩ => ⟨S1024x32, .f32⟩
  | .hbm, ⟨78, _⟩ => ⟨S1024x32, .f32⟩
  | .hbm, ⟨79, _⟩ => ⟨S32x100000, .f32⟩
  | .hbm, ⟨80, _⟩ => ⟨S1024x100000, .f32⟩
  | _, _ => ⟨S1024x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v8 : Ref sig .tc := ⟨.hbm, 77, rfl⟩
abbrev main_v9 : Ref sig .tc := ⟨.hbm, 78, rfl⟩
abbrev main_v10 : Ref sig .tc := ⟨.hbm, 79, rfl⟩
abbrev main_v11 : Ref sig .tc := ⟨.hbm, 80, rfl⟩

abbrev nD : Nat := 1
abbrev τ : Topo := Topo.v7x

variable {F : FTy → Type} [FloatOps F]
-- ==== Proof.Setup.lean ====
/-
  What every module of this proof shares: the program as the SparseCore launch theorem sees it, the algebra of ghost
  state, the arrays the SparseCore call touches, and what that call carries to each vector subcore and back.

  The call's task number `w = 2 s + c` (vector subcore `s` of SparseCore `c`) fetches entries `32 w … 32 w + 31` of three
  index lists, gathers the rows they name out of two tables, and writes them to rows `32 w … 32 w + 31` of three arrays.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Score

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the program under the SparseCore calls: the kernels' and the one pipelined TensorCore region's. -/
abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelined region's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipelined region's rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays of the SparseCore call -/

/-- The two tables, the three index lists, the three results. -/
abbrev eLoc (d : Dev nD) : Loc nD τ sig := (SparseCore.T d).loc main_v6
abbrev rLoc (d : Dev nD) : Loc nD τ sig := (SparseCore.T d).loc main_v7
abbrev i0Loc (d : Dev nD) : Loc nD τ sig := (SparseCore.T d).loc main_v8
abbrev i1Loc (d : Dev nD) : Loc nD τ sig := (SparseCore.T d).loc main_v9
abbrev i2Loc (d : Dev nD) : Loc nD τ sig := (SparseCore.T d).loc main_v10
abbrev o0Loc (d : Dev nD) : Loc nD τ sig := (SparseCore.T d).loc main_v11_0
abbrev o1Loc (d : Dev nD) : Loc nD τ sig := (SparseCore.T d).loc main_v11_1
abbrev o2Loc (d : Dev nD) : Loc nD τ sig := (SparseCore.T d).loc main_v11_2

/-- The rows of `tab` that the words of `ix` name: row `i` of the answer is row `ix i` of `tab`. (The reduction modulo the
    number of rows only makes the definition total; every word used is below it.) -/
def pick {n : Nat} (hn : 0 < n) (tab : (⟨2, ![n, 128]⟩ : Shape).Idx → Elt F .f32) (ix : S1024.Idx → Elt F .i32) : S1024x128.Idx → Elt F .f32 :=
  fun x => tab (fun a => match a with
    | ⟨0, _⟩ => ⟨(ix fun | ⟨0, _⟩ => x 0).toNat % n, Nat.mod_lt _ hn⟩
    | ⟨1, _⟩ => x 1)

theorem div1024 : 32 ∣ S1024.size 0 := ⟨32, rfl⟩
theorem div1024x128 : 32 ∣ S1024x128.size 0 := ⟨32, rfl⟩
/-- Block `w` of an index list and of a result: 32 entries, 32 rows. -/
abbrev iblk (w : Fin 32) : Rect S1024 := Rect.part (s := S1024) (a₀ := 0) div1024 w
abbrev oblk (w : Fin 32) : Rect S1024x128 := Rect.part (s := S1024x128) (a₀ := 0) div1024x128 w
abbrev iSet (w : Fin 32) : Finset S1024.Idx := (iblk w).set
abbrev oSet (w : Fin 32) : Finset S1024x128.Idx := (oblk w).set

/-- Task `w`'s share of a table. -/
abbrev tq (w : Fin 32) : PosShare TreeShare := pieceOf fullShare 32 (by decide) w

/-- The task number of vector subcore `s` of SparseCore `c`. -/
abbrev wid (c : Fin 2) (s : Fin 16) : Fin 32 := ⟨2 * s.val + c.val, by omega⟩

variable [FloatOps F]

/-! ## What the handshakes carry -/

section Payload

-- the contents of each device's buffers when the SparseCore call starts
variable (Vc : Dev nD → Valuation τ sig (Elt F))

abbrev eV (d : Dev nD) : S25000x128.Idx → Elt F .f32 := Vc d (Proc.devRef .tc main_v6)
abbrev rV (d : Dev nD) : S250x128.Idx → Elt F .f32 := Vc d (Proc.devRef .tc main_v7)
abbrev i0V (d : Dev nD) : S1024.Idx → Elt F .i32 := Vc d (Proc.devRef .tc main_v8)
abbrev i1V (d : Dev nD) : S1024.Idx → Elt F .i32 := Vc d (Proc.devRef .tc main_v9)
abbrev i2V (d : Dev nD) : S1024.Idx → Elt F .i32 := Vc d (Proc.devRef .tc main_v10)

/-- What the three results hold after the call. -/
abbrev g0 (d : Dev nD) : Buf (Elt F) (o0Loc d) := pick (n := 25000) (by decide) (eV Vc d) (i0V Vc d)
abbrev g1 (d : Dev nD) : Buf (Elt F) (o1Loc d) := pick (n := 250) (by decide) (rV Vc d) (i1V Vc d)
abbrev g2 (d : Dev nD) : Buf (Elt F) (o2Loc d) := pick (n := 25000) (by decide) (eV Vc d) (i2V Vc d)

/-- What task `w` holds throughout: its shares of the tables and its blocks of the index lists. -/
def reads (d : Dev nD) (w : Fin 32) : sProp 𝕄 :=
  iprop((eLoc d ↦{tq w} eV Vc d) ∗ (rLoc d ↦{tq w} rV Vc d)
    ∗ (i0Loc d ↦[iSet w]{fullShare} i0V Vc d) ∗ (i1Loc d ↦[iSet w]{fullShare} i1V Vc d) ∗ (i2Loc d ↦[iSet w]{fullShare} i2V Vc d))

/-- Task `w`'s blocks of the results, the arrays at `f0`, `f1`, `f2`. -/
def outs (d : Dev nD) (w : Fin 32) (f0 : Buf (Elt F) (o0Loc d)) (f1 : Buf (Elt F) (o1Loc d)) (f2 : Buf (Elt F) (o2Loc d)) : sProp 𝕄 :=
  iprop((o0Loc d ↦[oSet w]{fullShare} f0) ∗ (o1Loc d ↦[oSet w]{fullShare} f1) ∗ (o2Loc d ↦[oSet w]{fullShare} f2))

/-- Task `w`'s resources before and after. -/
def tileIn (d : Dev nD) (w : Fin 32) : sProp 𝕄 :=
  iprop(reads Vc d w ∗ outs d w (Vc d (Proc.devRef .tc main_v11_0)) (Vc d (Proc.devRef .tc main_v11_1)) (Vc d (Proc.devRef .tc main_v11_2)))
def tileOut (d : Dev nD) (w : Fin 32) : sProp 𝕄 := iprop(reads Vc d w ∗ outs d w (g0 Vc d) (g1 Vc d) (g2 Vc d))

instance (d : Dev nD) (w : Fin 32) : BI.Storable (upEmb : UEmb _ 𝕄) (tileIn Vc d w) := by unfold tileIn reads outs; infer_instance
instance (d : Dev nD) (w : Fin 32) : BI.Storable (upEmb : UEmb _ 𝕄) (tileOut Vc d w) := by unfold tileOut reads outs; infer_instance

/-- The one call takes and returns, for each SparseCore, its sixteen tasks' resources; each task takes and returns its own. -/
def P : (K (F := F)).Pay (nD := nD) (Val := Elt F) (Name := ℕ) (U := UU) where
  st := fun q d c => match q with | 0 => bigSep Finset.univ fun i : Fin ((K (F := F)).nSub 0) => tileIn Vc d (wid (Fin.cast nCore_zero c) (Fin.cast nSub_zero i))
  dn := fun q d c => match q with | 0 => bigSep Finset.univ fun i : Fin ((K (F := F)).nSub 0) => tileOut Vc d (wid (Fin.cast nCore_zero c) (Fin.cast nSub_zero i))
  go := fun q d c i => match q with | 0 => tileIn Vc d (wid (Fin.cast nCore_zero c) (Fin.cast nSub_zero i))
  td := fun q d c i => match q with | 0 => tileOut Vc d (wid (Fin.cast nCore_zero c) (Fin.cast nSub_zero i))
  x := fun _ _ => iprop(emp)

instance P_storable : (P (F := F) Vc).IsStorable where
  st q d c := match q with | 0 => (inferInstance : BI.Storable (upEmb : UEmb _ 𝕄) (bigSep Finset.univ fun i : Fin ((K (F := F)).nSub 0) => tileIn Vc d (wid (Fin.cast nCore_zero c) (Fin.cast nSub_zero i))))
  dn q d c := match q with | 0 => (inferInstance : BI.Storable (upEmb : UEmb _ 𝕄) (bigSep Finset.univ fun i : Fin ((K (F := F)).nSub 0) => tileOut Vc d (wid (Fin.cast nCore_zero c) (Fin.cast nSub_zero i))))
  go q d c i := match q with | 0 => (inferInstance : BI.Storable (upEmb : UEmb _ 𝕄) (tileIn Vc d (wid (Fin.cast nCore_zero c) (Fin.cast nSub_zero i))))
  td q d c i := match q with | 0 => (inferInstance : BI.Storable (upEmb : UEmb _ 𝕄) (tileOut Vc d (wid (Fin.cast nCore_zero c) (Fin.cast nSub_zero i))))

/-- What the call needs of the index lists: every word names a row of its table. -/
def IdxOK : Prop := ∀ d : Dev nD, (∀ j, (i0V Vc d j).toNat < 25000) ∧ (∀ j, (i1V Vc d j).toNat < 250) ∧ (∀ j, (i2V Vc d j).toNat < 25000)

end Payload

end Cert.Proof.Score

end
-- ==== Proof.Rows.lean ====
/-
  The TensorCore call's geometry and values. Its score array has 100000 rows of 1024; the call writes it in pieces of 512
  rows (the last of 160) copied out of the four slots of a scratch buffer. Here are the slots, the pieces as sets of rows
  and how rows are split and joined, what a slot holds when its piece is sent, and the whole score array as one function
  of the padded table and of the block of query products.
-/
module

public import proofs.«01_k».proof.Proof.Setup
public import Idealize.ShloMosaic.Lib.ValueLayout
public import Idealize.ShloMosaic.Lib.VecWindow
public import Idealize.ShloMosaic.Lib.ValueIdx

@[expose] public section

noncomputable section

namespace Cert.Proof.Score

open Cert.KernelIdeal Cert.KernelIdeal.Gen

open Idealize.ShloMosaic
open Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The buffers -/

/-- The score array, the four-slot scratch and the scratch that keeps the query products. -/
abbrev A8 : Memref sig .tc .hbm S100000x1024 .f32 := Memref.whole main_v20_0
abbrev A12 : Memref sig .tc .vmem S4x512x1024 .f32 := Memref.whole cc1_scratch0
abbrev A13 : Memref sig .tc .vmem S1024x32 .bf16 := Memref.whole cc1_scratch1

/-- The four slots, as the copies name them. -/
abbrev slot0 : Memref sig .tc .vmem S512x1024 .f32 :=
  (A12.slice (Rect.unit (s := S4x512x1024) ![0, 0, 0] S1x512x1024.size inb_S4x512x1024_S1x512x1024_0_0_0) (fun _ => rfl)).squeeze S512x1024 squeezes_S1x512x1024_S512x1024
abbrev slot1 : Memref sig .tc .vmem S512x1024 .f32 :=
  (A12.slice (Rect.unit (s := S4x512x1024) ![1, 0, 0] S1x512x1024.size inb_S4x512x1024_S1x512x1024_1_0_0) (fun _ => rfl)).squeeze S512x1024 squeezes_S1x512x1024_S512x1024
abbrev slot2 : Memref sig .tc .vmem S512x1024 .f32 :=
  (A12.slice (Rect.unit (s := S4x512x1024) ![2, 0, 0] S1x512x1024.size inb_S4x512x1024_S1x512x1024_2_0_0) (fun _ => rfl)).squeeze S512x1024 squeezes_S1x512x1024_S512x1024
abbrev slot3 : Memref sig .tc .vmem S512x1024 .f32 :=
  (A12.slice (Rect.unit (s := S4x512x1024) ![3, 0, 0] S1x512x1024.size inb_S4x512x1024_S1x512x1024_3_0_0) (fun _ => rfl)).squeeze S512x1024 squeezes_S1x512x1024_S512x1024
/-- The first 160 rows of the last slot: what the last grid point sends of it. -/
abbrev tail3 : Memref sig .tc .vmem S160x1024 .f32 :=
  (A12.slice (Rect.unit (s := S4x512x1024) ![3, 0, 0] S1x160x1024.size inb_S4x512x1024_S1x160x1024_3_0_0) (fun _ => rfl)).squeeze S160x1024 squeezes_S1x160x1024_S160x1024

/-- The four copies' semaphores. -/
abbrev dsem0 : DmaSem sig := ⟨20, by decide⟩
abbrev dsem1 : DmaSem sig := ⟨21, by decide⟩
abbrev dsem2 : DmaSem sig := ⟨22, by decide⟩
abbrev dsem3 : DmaSem sig := ⟨23, by decide⟩

/-- The 512 rows of the score array at an offset, and 160 of them. -/
abbrev outP (o : Fin 2 → Nat) (h : ∀ a, o a + S512x1024.size a ≤ S100000x1024.size a) : Memref sig .tc .hbm S512x1024 .f32 :=
  A8.slice (Rect.unit (s := S100000x1024) o S512x1024.size h) (fun _ => rfl)
abbrev outT (o : Fin 2 → Nat) (h : ∀ a, o a + S160x1024.size a ≤ S100000x1024.size a) : Memref sig .tc .hbm S160x1024 .f32 :=
  A8.slice (Rect.unit (s := S100000x1024) o S160x1024.size h) (fun _ => rfl)

/-- A memref held by exactly its own elements. -/
abbrev own {s : Shape} {sp : Space} {e : EltTy} (c : Dev nD) (m : Memref sig .tc sp s e) (f : Buf (Elt F) (m.view.loc (c : Thread nD τ))) : sProp 𝕄 :=
  m.view.loc (c : Thread nD τ) ↦[m.view.set]{fullShare} f

/-! ## Sets of rows -/

/-- Rows `a … b - 1` of the score array. -/
def rows (a b : ℕ) : Finset S100000x1024.Idx := Finset.univ.filter fun x => a ≤ (x 0).val ∧ (x 0).val < b

theorem mem_rows {a b : ℕ} {x : S100000x1024.Idx} : x ∈ rows a b ↔ a ≤ (x 0).val ∧ (x 0).val < b := by
  unfold rows; rw [Finset.mem_filter]; exact ⟨fun h => h.2, fun h => ⟨Finset.mem_univ _, h⟩⟩

theorem rows_all : rows 0 100000 = Finset.univ := by
  ext x; rw [mem_rows]; exact ⟨fun _ => Finset.mem_univ _, fun _ => ⟨Nat.zero_le _, (x 0).isLt⟩⟩

theorem rows_union {a b d : ℕ} (h : a ≤ b) (h' : b ≤ d) : rows a b ∪ rows b d = rows a d := by
  ext x; rw [Finset.mem_union, mem_rows, mem_rows, mem_rows]; omega

theorem rows_disjoint (a b d : ℕ) : Disjoint (rows a b) (rows b d) := by
  rw [Finset.disjoint_left]; intro x; rw [mem_rows, mem_rows]; omega

theorem rows_self (a : ℕ) : rows a a = ∅ := by
  ext x; rw [mem_rows]; constructor
  · intro h; omega
  · intro h; exact absurd h (Finset.notMem_empty _)

/-- A piece at row `r` is rows `r … r + 511`. -/
theorem outP_set {o : Fin 2 → Nat} (h) {r : ℕ} (e : o = ![r, 0]) : (outP o h).view.set = rows r (r + 512) := by
  subst e
  ext x
  rw [show (outP ![r, 0] h).view.set = (Rect.unit (s := S100000x1024) ![r, 0] S512x1024.size h).set from View.set_slice_whole _ _]
  rw [Rect.mem_set_unit, mem_rows]
  constructor
  · intro hx; exact hx 0
  · intro hx a
    match a with
    | 0 => exact hx
    | 1 => exact ⟨Nat.zero_le _, by show (x 1).val < 0 + 1024; have := (x 1).isLt; exact (Nat.zero_add 1024).symm ▸ this⟩

theorem outT_set {o : Fin 2 → Nat} (h) {r : ℕ} (e : o = ![r, 0]) : (outT o h).view.set = rows r (r + 160) := by
  subst e
  ext x
  rw [show (outT ![r, 0] h).view.set = (Rect.unit (s := S100000x1024) ![r, 0] S160x1024.size h).set from View.set_slice_whole _ _]
  rw [Rect.mem_set_unit, mem_rows]
  constructor
  · intro hx; exact hx 0
  · intro hx a
    match a with
    | 0 => exact hx
    | 1 => exact ⟨Nat.zero_le _, by show (x 1).val < 0 + 1024; have := (x 1).isLt; exact (Nat.zero_add 1024).symm ▸ this⟩

/-- Rows `a … b - 1` of the score array held at `f`. -/
abbrev rowsAt (c : Dev nD) (a b : ℕ) (f : Buf (Elt F) (A8.view.loc (c : Thread nD τ))) : sProp 𝕄 :=
  A8.view.loc (c : Thread nD τ) ↦[rows a b]{fullShare} f

theorem rowsAt_split (c : Dev nD) {a b d : ℕ} (h : a ≤ b) (h' : b ≤ d) (f : Buf (Elt F) (A8.view.loc (c : Thread nD τ))) :
    rowsAt c a d f ⊣⊢ iprop(rowsAt c a b f ∗ rowsAt c b d f) := by
  unfold rowsAt; rw [← rows_union h h']; exact pointsTo_union (rows_disjoint a b d)

/-! ## Slots -/

/-- Slot `j` of the scratch, as a set. -/
def slotSet (j : ℕ) : Finset S4x512x1024.Idx := Finset.univ.filter fun x => (x 0).val = j

theorem mem_slotSet {j : ℕ} {x : S4x512x1024.Idx} : x ∈ slotSet j ↔ (x 0).val = j := by
  unfold slotSet; rw [Finset.mem_filter]; exact ⟨fun h => h.2, fun h => ⟨Finset.mem_univ _, h⟩⟩

theorem slotSet_eq {j : ℕ} (h : ∀ a, (![j, 0, 0] : Fin 3 → ℕ) a + S1x512x1024.size a ≤ S4x512x1024.size a) :
    (Rect.unit (s := S4x512x1024) ![j, 0, 0] S1x512x1024.size h).set = slotSet j := by
  ext x
  rw [Rect.mem_set_unit, mem_slotSet]
  constructor
  · intro hx
    have := hx 0
    have h1 : j ≤ (x 0).val := this.1
    have h2 : (x 0).val < j + 1 := this.2
    omega
  · intro hx a
    match a with
    | 0 => exact ⟨hx.ge, by show (x 0).val < j + 1; omega⟩
    | 1 => exact ⟨Nat.zero_le _, by show (x 1).val < 0 + 512; have := (x 1).isLt; exact (Nat.zero_add 512).symm ▸ this⟩
    | 2 => exact ⟨Nat.zero_le _, by show (x 2).val < 0 + 1024; have := (x 2).isLt; exact (Nat.zero_add 1024).symm ▸ this⟩

theorem set0 : slot0.view.set = slotSet 0 :=
  ((View.set_reshape _ _).trans (View.set_slice_whole _ _)).trans (slotSet_eq inb_S4x512x1024_S1x512x1024_0_0_0)
theorem set1 : slot1.view.set = slotSet 1 :=
  ((View.set_reshape _ _).trans (View.set_slice_whole _ _)).trans (slotSet_eq inb_S4x512x1024_S1x512x1024_1_0_0)
theorem set2 : slot2.view.set = slotSet 2 :=
  ((View.set_reshape _ _).trans (View.set_slice_whole _ _)).trans (slotSet_eq inb_S4x512x1024_S1x512x1024_2_0_0)
theorem set3 : slot3.view.set = slotSet 3 :=
  ((View.set_reshape _ _).trans (View.set_slice_whole _ _)).trans (slotSet_eq inb_S4x512x1024_S1x512x1024_3_0_0)

theorem tail3_subset : tail3.view.set ⊆ slot3.view.set := by
  rw [set3]
  rw [show tail3.view.set = (Rect.unit (s := S4x512x1024) ![3, 0, 0] S1x160x1024.size inb_S4x512x1024_S1x160x1024_3_0_0).set from
    Eq.trans (View.set_reshape _ _) (View.set_slice_whole _ _)]
  intro (x : S4x512x1024.Idx) hx
  rw [mem_slotSet]
  have hx := Rect.mem_set_unit.mp hx
  have h1 : 3 ≤ (x 0).val := (hx 0).1
  have h2 : (x 0).val < 3 + 1 := (hx 0).2
  omega

theorem slots_union : (slotSet 0 ∪ slotSet 1) ∪ (slotSet 2 ∪ slotSet 3) = Finset.univ := by
  ext x
  simp only [Finset.mem_union, mem_slotSet, Finset.mem_univ, iff_true]
  have : (x 0).val < 4 := (x 0).isLt
  omega

theorem slots_disj_of {i j : ℕ} (h : i ≠ j) : Disjoint (slotSet i) (slotSet j) := by
  rw [Finset.disjoint_left]; intro x; rw [mem_slotSet, mem_slotSet]; omega
theorem slots_disj : Disjoint (slotSet 0 ∪ slotSet 1) (slotSet 2 ∪ slotSet 3) := by
  rw [Finset.disjoint_left]; intro x
  simp only [Finset.mem_union, mem_slotSet]; omega

/-- The elements `s` of the scratch held at `f`. -/
abbrev slotAt (c : Dev nD) (s : Finset S4x512x1024.Idx) (f : Buf (Elt F) (A12.view.loc (c : Thread nD τ))) : sProp 𝕄 :=
  A12.view.loc (c : Thread nD τ) ↦[s]{fullShare} f

theorem own0 (c : Dev nD) (f : Buf (Elt F) (A12.view.loc (c : Thread nD τ))) : (own c slot0 f : sProp 𝕄) = slotAt c (slotSet 0) f := by
  unfold slotAt; rw [← set0]
theorem own1 (c : Dev nD) (f : Buf (Elt F) (A12.view.loc (c : Thread nD τ))) : (own c slot1 f : sProp 𝕄) = slotAt c (slotSet 1) f := by
  unfold slotAt; rw [← set1]
theorem own2 (c : Dev nD) (f : Buf (Elt F) (A12.view.loc (c : Thread nD τ))) : (own c slot2 f : sProp 𝕄) = slotAt c (slotSet 2) f := by
  unfold slotAt; rw [← set2]
theorem own3 (c : Dev nD) (f : Buf (Elt F) (A12.view.loc (c : Thread nD τ))) : (own c slot3 f : sProp 𝕄) = slotAt c (slotSet 3) f := by
  unfold slotAt; rw [← set3]

/-- The scratch held whole is its four slots. -/
theorem slots_split (c : Dev nD) (f : Buf (Elt F) (A12.view.loc (c : Thread nD τ))) :
    (A12.view.loc (c : Thread nD τ) ↦{fullShare} f : sProp 𝕄) ⊢ iprop(own c slot0 f ∗ own c slot1 f ∗ own c slot2 f ∗ own c slot3 f) := by
  rw [own0, own1, own2, own3]
  have h : (A12.view.loc (c : Thread nD τ) ↦{fullShare} f : sProp 𝕄) = slotAt c ((slotSet 0 ∪ slotSet 1) ∪ (slotSet 2 ∪ slotSet 3)) f := by
    rw [slots_union]
  rw [h]
  iintro H
  ihave H := (pointsTo_union slots_disj).1 $$ H
  icases H with ⟨Ha, Hb⟩
  ihave Ha := (pointsTo_union (slots_disj_of (by decide))).1 $$ Ha
  ihave Hb := (pointsTo_union (slots_disj_of (by decide))).1 $$ Hb
  icases Ha with ⟨H0, H1⟩
  icases Hb with ⟨H2, H3⟩
  isplitl [H0]; · iexact H0
  isplitl [H1]; · iexact H1
  isplitl [H2]; · iexact H2
  iexact H3

/-- The four slots, whatever each holds, are the scratch whole. -/
theorem slots_join (c : Dev nD) (f0 f1 f2 f3 : Buf (Elt F) (A12.view.loc (c : Thread nD τ))) :
    iprop(own c slot0 f0 ∗ own c slot1 f1 ∗ own c slot2 f2 ∗ own c slot3 f3) ⊢ (iprop(∃ f, A12.view.loc (c : Thread nD τ) ↦{fullShare} f) : sProp 𝕄) := by
  rw [own0, own1, own2, own3]
  iintro ⟨H0, H1, H2, H3⟩
  ihave Ha := (pointsTo_join (ℓ := A12.view.loc (c : Thread nD τ)) (slots_disj_of (i := 0) (j := 1) (by decide))) $$ [H0 H1]
  · isplitl [H0]; · iexact H0
    iexact H1
  ihave Hb := (pointsTo_join (ℓ := A12.view.loc (c : Thread nD τ)) (slots_disj_of (i := 2) (j := 3) (by decide))) $$ [H2 H3]
  · isplitl [H2]; · iexact H2
    iexact H3
  ihave H := (pointsTo_join (ℓ := A12.view.loc (c : Thread nD τ)) slots_disj) $$ [Ha Hb]
  · isplitl [Ha]; · iexact Ha
    iexact Hb
  rw [slots_union]
  iexists _
  iexact H

/-! ## What a slot holds when it is sent -/

/-- Reading through a view what was just written whole through another with the same elements. -/
theorem write_emb {sp : Space} {s : Shape} {e : EltTy} (v : View sig .tc sp s e) (b : v.ty.Contents (Elt F)) (P : s.Idx → Elt F e) (z : s.Idx) :
    v.read (Elt F) (v.write (Elt F) b P Finset.univ) z = P z := congrFun (View.read_write_univ b P) z

/-- Sending a slot that was just written whole, as a block with a leading axis of one, sends the block. -/
theorem slot_sent {j : ℕ} (h : ∀ a, (![j, 0, 0] : Fin 3 → ℕ) a + S1x512x1024.size a ≤ S4x512x1024.size a)
    (b : (A12.access (Rect.unit (s := S4x512x1024) ![j, 0, 0] S1x512x1024.size h)).ty.Contents (Elt F)) (P : S1x512x1024.Idx → Elt F .f32) (P2 : S512x1024.Idx → Elt F .f32)
    (hn : S1x512x1024.numel = S512x1024.numel) (hP : ∀ z, P z = P2 (Shape.reshapeEquiv hn z)) (y : S512x1024.Idx) :
    View.read (Elt F) ((A12.slice (Rect.unit (s := S4x512x1024) ![j, 0, 0] S1x512x1024.size h) (fun _ => rfl)).squeeze S512x1024 squeezes_S1x512x1024_S512x1024).view
      (View.write (Elt F) (A12.access (Rect.unit (s := S4x512x1024) ![j, 0, 0] S1x512x1024.size h)) b P Finset.univ) y = P2 y := by
  refine Eq.trans (b := View.read (Elt F) (A12.access (Rect.unit (s := S4x512x1024) ![j, 0, 0] S1x512x1024.size h))
    (View.write (Elt F) (A12.access (Rect.unit (s := S4x512x1024) ![j, 0, 0] S1x512x1024.size h)) b P Finset.univ) (Shape.reshapeEquiv hn.symm y)) rfl ?_
  rw [write_emb, hP, Shape.reshapeEquiv_reshapeEquiv, Shape.reshapeEquiv_self]

/-- and sending its first 160 rows sends the block's first 160 rows. -/
theorem tail_sent (b : (A12.access (Rect.unit (s := S4x512x1024) ![3, 0, 0] S1x512x1024.size inb_S4x512x1024_S1x512x1024_3_0_0)).ty.Contents (Elt F))
    (P : S1x512x1024.Idx → Elt F .f32) (P2 : S512x1024.Idx → Elt F .f32)
    (hn : S1x512x1024.numel = S512x1024.numel) (hP : ∀ z, P z = P2 (Shape.reshapeEquiv hn z)) (y : S160x1024.Idx) (y' : S512x1024.Idx)
    (h0 : (y' 0).val = (y 0).val) (h1 : (y' 1).val = (y 1).val) :
    View.read (Elt F) tail3.view
      (View.write (Elt F) (A12.access (Rect.unit (s := S4x512x1024) ![3, 0, 0] S1x512x1024.size inb_S4x512x1024_S1x512x1024_3_0_0)) b P Finset.univ) y = P2 y' := by
  refine Eq.trans ?_ (slot_sent inb_S4x512x1024_S1x512x1024_3_0_0 b P P2 hn hP y')
  have e : (Rect.unit (s := S4x512x1024) ![3, 0, 0] S1x160x1024.size inb_S4x512x1024_S1x160x1024_3_0_0).emb (Shape.reshapeEquiv squeezes_S1x160x1024_S160x1024.numel_eq y)
      = (Rect.unit (s := S4x512x1024) ![3, 0, 0] S1x512x1024.size inb_S4x512x1024_S1x512x1024_3_0_0).emb (Shape.reshapeEquiv squeezes_S1x512x1024_S512x1024.numel_eq y') := by
    rw [show Shape.reshapeEquiv squeezes_S1x160x1024_S160x1024.numel_eq y = Fin.cons ⟨0, Nat.one_pos⟩ y from Shape.reshapeEquiv_cons_one (d := ![160, 1024]) _ y,
      show Shape.reshapeEquiv squeezes_S1x512x1024_S512x1024.numel_eq y' = Fin.cons ⟨0, Nat.one_pos⟩ y' from Shape.reshapeEquiv_cons_one (d := ![512, 1024]) _ y']
    funext a
    match a with
    | 0 => rfl
    | 1 => exact Fin.ext (by show 0 + 1 * (y 0).val = 0 + 1 * (y' 0).val; omega)
    | 2 => exact Fin.ext (by show 0 + 1 * (y 1).val = 0 + 1 * (y' 1).val; omega)
  exact congrArg (View.write (Elt F) (A12.access (Rect.unit (s := S4x512x1024) ![3, 0, 0] S1x512x1024.size inb_S4x512x1024_S1x512x1024_3_0_0)) b P Finset.univ) e

/-- A piece of the score array filled with `w` is those rows at `g`, where `g` reads `w` there. -/
theorem landed (c : Dev nD) {s : Shape} (dst : Memref sig .tc .hbm s .f32) (hd : dst.view.loc (c : Thread nD τ) = A8.view.loc (c : Thread nD τ))
    (n g : Buf (Elt F) (dst.view.loc (c : Thread nD τ))) (w : s.Idx → Elt F .f32) (h : ∀ y, dst.view.read (Elt F) g y = w y) :
    (own c dst (dst.view.writes (Elt F) n [⟨Rect.whole s, w⟩]) : sProp 𝕄) ⊢ own c dst g := by
  refine Entails.of_eq (pointsTo_congr fun i hi => ?_)
  obtain ⟨x, -, rfl⟩ := Finset.mem_map.mp hi
  have h1 := (congrFun (View.read_writes_whole dst.view n w) x).trans (h x).symm
  rw [View.read_apply, View.read_apply] at h1
  exact (cast_inj _).mp h1

/-! ## The score array -/

/-- Columns `n k … n k + n - 1` of the padded table: what grid point `k` fetches (`n = 2048`), what fills a slot (`n = 512`). -/
def cols (A0 : S32x100352.Idx → Elt F .f32) (n k : ℕ) : (⟨2, ![32, n]⟩ : Shape).Idx → Elt F .f32 :=
  fun y => A0 (ix2 (y 0) ⟨(n * k + (y 1).val) % 100352, Nat.mod_lt _ (by decide)⟩)

variable [FloatOps F]

/-- The whole score array: row `r` is row `r % 512` of the product of block `r / 512` of the padded table's columns with
    the query products. -/
def scoreT (A0 : S32x100352.Idx → Elt F .f32) (q : S1024x32.Idx → Elt F .bf16) : S100000x1024.Idx → Elt F .f32 :=
  fun x => k1_pay12 q (cols A0 512 ((x 0).val / 512)) (ix2 (⟨(x 0).val % 512, Nat.mod_lt _ (by decide)⟩ : Fin 512) (x 1))

/-- At row `512 m + y` the score array holds row `y` of block `m`'s product. -/
theorem scoreT_at (A0 : S32x100352.Idx → Elt F .f32) (q : S1024x32.Idx → Elt F .bf16) (x : S100000x1024.Idx) (m : ℕ) (y : S512x1024.Idx)
    (h0 : (x 0).val = 512 * m + (y 0).val) (h1 : (x 1).val = (y 1).val) : scoreT A0 q x = k1_pay12 q (cols A0 512 m) y := by
  have hy : (y 0).val < 512 := (y 0).isLt
  unfold scoreT
  rw [show (x 0).val / 512 = m by omega]
  congr 1
  funext a
  match a with
  | 0 => exact Fin.ext (by show (x 0).val % 512 = (y 0).val; omega)
  | 1 => exact Fin.ext h1

/-- A slot's block of the columns a grid point fetches. -/
theorem readAt_cols {M1 : Memref sig .tc .vmem S32x2048 .f32} (A0 : S32x100352.Idx → Elt F .f32) (f1 : M1.view.ty.Contents (Elt F)) (k j : ℕ) (hj : j < 4)
    (h1 : M1.view.read (Elt F) f1 = cols A0 2048 k) (o : ℕ) (ho : o = 512 * j) (h : ∀ a, (![0, o] : Fin 2 → ℕ) a + S32x512.size a ≤ S32x2048.size a) :
    M1.view.readAt (Elt F) (Rect.unit (s := S32x2048) ![0, o] S32x512.size h).toLoadRect f1 = cols A0 512 (4 * k + j) := by
  subst ho
  rw [View.readAt_unit M1.view f1 h rfl h, h1]
  funext y
  refine congrArg A0 (funext fun a => ?_)
  match a with
  | 0 => exact Fin.ext (by show 0 + 1 * (y 0).val = (y 0).val; omega)
  | 1 => exact Fin.ext (by show (2048 * k + (512 * j + 1 * (y 1).val)) % 100352 = (512 * (4 * k + j) + (y 1).val) % 100352; congr 1; omega)

end Cert.Proof.Score

end
-- ==== Proof.Body.lean ====
/-
  The TensorCore body at one grid point, in its three forms: the first point (which selects the query rows and fills the
  scratch of query products, and waits for nothing), a middle point (which waits for the four copies of the point before),
  and the last (whose fourth copy is short, and which waits for its own four). Each is run once over the four copies in
  flight; what a slot sends is the block of `scoreT` its piece of the score array is for.
-/
module

public import proofs.«01_k».proof.Proof.Rows
public import Idealize.ShloMosaic.Lib.VecWindow

@[expose] public section

noncomputable section

namespace Cert.Proof.Score

open Cert.KernelIdeal Cert.KernelIdeal.Gen

open Idealize.ShloMosaic
open Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "EC" => countersEmb (U := UU)

/-- What a memref's buffer holds, on the TensorCore. -/
abbrev bufAt {s : Shape} {sp : Space} {e : EltTy} (c : Dev nD) (m : Memref sig .tc sp s e) : Type := Buf (Elt F) (m.view.loc (c : Thread nD τ))

/-- A copy in flight that will deliver the rows of `R` at `g` and hand its slot back at `f`. -/
abbrev flR (c : Dev nD) (sm : DmaSem sig) (R : Finset S100000x1024.Idx) (src : Memref sig .tc .vmem S512x1024 .f32)
    (g : Buf (Elt F) (A8.view.loc (c : Thread nD τ))) (f : Buf (Elt F) (src.view.loc (c : Thread nD τ))) : sProp 𝕄 :=
  Transfers.Flight EC (c : Thread nD τ) (.dma sm) (default : HIx 1) 65536 iprop((A8.view.loc (c : Thread nD τ) ↦[R]{fullShare} g) ∗ own c src f)

/-- The copy of 512 rows from row `r`, which delivers them at `g`. -/
def fly (c : Dev nD) (sm : DmaSem sig) (r : ℕ) (src : Memref sig .tc .vmem S512x1024 .f32) (g : Buf (Elt F) (A8.view.loc (c : Thread nD τ))) : sProp 𝕄 :=
  iprop(∃ f, flR c sm (rows r (r + 512)) src g f)

/-- The four copies of the point whose rows begin at `r`. -/
def fly4 (c : Dev nD) (r : ℕ) (g : Buf (Elt F) (A8.view.loc (c : Thread nD τ))) : sProp 𝕄 :=
  iprop(fly c dsem0 r slot0 g ∗ fly c dsem1 (r + 512) slot1 g ∗ fly c dsem2 (r + 1024) slot2 g ∗ fly c dsem3 (r + 1536) slot3 g)

/-- A piece filled with block `m`'s product is those rows of the score array. -/
theorem landP (c : Dev nD) {o : Fin 2 → Nat} (h) (m : ℕ) (e : o = ![512 * m, 0]) (n : Buf (Elt F) (A8.view.loc (c : Thread nD τ)))
    (A0 : S32x100352.Idx → Elt F .f32) (q : S1024x32.Idx → Elt F .bf16) (w : S512x1024.Idx → Elt F .f32) (hw : ∀ y, w y = k1_pay12 q (cols A0 512 m) y) :
    (own c (outP o h) ((outP o h).view.writes (Elt F) n [⟨Rect.whole S512x1024, w⟩]) : sProp 𝕄) ⊢ rowsAt c (512 * m) (512 * m + 512) (scoreT A0 q) := by
  refine (landed c (outP o h) rfl n (scoreT A0 q) w fun y => ?_).trans ?_
  · subst e
    refine (scoreT_at A0 q ((Rect.unit (s := S100000x1024) ![512 * m, 0] S512x1024.size h).emb y) m y ?_ ?_).trans (hw y).symm
    · show 512 * m + 1 * (y 0).val = _; omega
    · show 0 + 1 * (y 1).val = _; omega
  · unfold own rowsAt; rw [outP_set h e]

/-- The short piece, at block 195. -/
theorem landT (c : Dev nD) {o : Fin 2 → Nat} (h) (m : ℕ) (e : o = ![512 * m, 0]) (n : Buf (Elt F) (A8.view.loc (c : Thread nD τ)))
    (A0 : S32x100352.Idx → Elt F .f32) (q : S1024x32.Idx → Elt F .bf16) (w : S160x1024.Idx → Elt F .f32)
    (hw : ∀ (y : S160x1024.Idx) (y' : S512x1024.Idx), (y' 0).val = (y 0).val → (y' 1).val = (y 1).val → w y = k1_pay12 q (cols A0 512 m) y') :
    (own c (outT o h) ((outT o h).view.writes (Elt F) n [⟨Rect.whole S160x1024, w⟩]) : sProp 𝕄) ⊢ rowsAt c (512 * m) (512 * m + 160) (scoreT A0 q) := by
  refine (landed c (outT o h) rfl n (scoreT A0 q) w fun y => ?_).trans ?_
  · subst e
    have y0 : (y 0).val < 160 := (y 0).isLt
    refine (scoreT_at A0 q ((Rect.unit (s := S100000x1024) ![512 * m, 0] S160x1024.size h).emb y) m (ix2 (⟨(y 0).val, by omega⟩ : Fin 512) (y 1)) ?_ ?_).trans
      (hw y _ rfl rfl).symm
    · show 512 * m + 1 * (y 0).val = _; show _ = 512 * m + (y 0).val; omega
    · show 0 + 1 * (y 1).val = (y 1).val; omega
  · unfold own rowsAt; rw [outT_set h e]

/-- The copy just started, as the copy of its rows. -/
theorem flyP (c : Dev nD) (sm : DmaSem sig) (src : Memref sig .tc .vmem S512x1024 .f32) (f : Buf (Elt F) (src.view.loc (c : Thread nD τ)))
    {o : Fin 2 → Nat} (h) (m : ℕ) (e : o = ![512 * m, 0]) (n : Buf (Elt F) (A8.view.loc (c : Thread nD τ)))
    (A0 : S32x100352.Idx → Elt F .f32) (q : S1024x32.Idx → Elt F .bf16) (w : S512x1024.Idx → Elt F .f32) (hw : ∀ y, w y = k1_pay12 q (cols A0 512 m) y)
    (r : ℕ) (hr : 512 * m = r) :
    (Transfers.Flight EC (c : Thread nD τ) (.dma sm) (default : HIx 1) 65536
      iprop(own c (outP o h) ((outP o h).view.writes (Elt F) n [⟨Rect.whole S512x1024, w⟩]) ∗ own c src f) : sProp 𝕄) ⊢ fly c sm r src (scoreT A0 q) := by
  subst hr
  unfold fly
  refine (Transfers.Flight_mono EC (c : Thread nD τ) (sep_mono_left (landP c h m e n A0 q w hw))).trans ?_
  iintro H
  iexists f
  iexact H

/-- A piece of the score array, from its rows. -/
theorem pieceP (c : Dev nD) {o : Fin 2 → Nat} (h) {r : ℕ} (e : o = ![r, 0]) (n : Buf (Elt F) (A8.view.loc (c : Thread nD τ))) :
    (rowsAt c r (r + 512) n : sProp 𝕄) ⊢ own c (outP o h) n := by
  unfold own rowsAt; rw [outP_set h e]
theorem pieceT (c : Dev nD) {o : Fin 2 → Nat} (h) {r : ℕ} (e : o = ![r, 0]) (n : Buf (Elt F) (A8.view.loc (c : Thread nD τ))) :
    (rowsAt c r (r + 160) n : sProp 𝕄) ⊢ own c (outT o h) n := by
  unfold own rowsAt; rw [outT_set h e]

/-- 2048 rows as four pieces, -/
theorem rows4 (c : Dev nD) (r : ℕ) (f : Buf (Elt F) (A8.view.loc (c : Thread nD τ))) :
    (rowsAt c r (r + 2048) f : sProp 𝕄) ⊣⊢ iprop(rowsAt c r (r + 512) f ∗ rowsAt c (r + 512) (r + 512 + 512) f ∗ rowsAt c (r + 1024) (r + 1024 + 512) f ∗ rowsAt c (r + 1536) (r + 1536 + 512) f) := by
  have e1 := rowsAt_split c (a := r) (b := r + 512) (d := r + 2048) (by omega) (by omega) f
  have e2 := rowsAt_split c (a := r + 512) (b := r + 1024) (d := r + 2048) (by omega) (by omega) f
  have e3 := rowsAt_split c (a := r + 1024) (b := r + 1536) (d := r + 2048) (by omega) (by omega) f
  exact e1.trans (BI.Laws.sep_congr .rfl (e2.trans (BI.Laws.sep_congr .rfl e3)))

/-- and the last 1696 as three and a short one. -/
theorem rows4' (c : Dev nD) (r : ℕ) (f : Buf (Elt F) (A8.view.loc (c : Thread nD τ))) :
    (rowsAt c r (r + 1696) f : sProp 𝕄) ⊣⊢ iprop(rowsAt c r (r + 512) f ∗ rowsAt c (r + 512) (r + 512 + 512) f ∗ rowsAt c (r + 1024) (r + 1024 + 512) f ∗ rowsAt c (r + 1536) (r + 1536 + 160) f) := by
  have e1 := rowsAt_split c (a := r) (b := r + 512) (d := r + 1696) (by omega) (by omega) f
  have e2 := rowsAt_split c (a := r + 512) (b := r + 1024) (d := r + 1696) (by omega) (by omega) f
  have e3 := rowsAt_split c (a := r + 1024) (b := r + 1536) (d := r + 1696) (by omega) (by omega) f
  exact e1.trans (BI.Laws.sep_congr .rfl (e2.trans (BI.Laws.sep_congr .rfl e3)))

variable {M1 : Memref sig .tc .vmem S32x2048 .f32} {M2 M3 M4 : Memref sig .tc .vmem S1024x128 .f32} {M5 M6 M7 : Memref sig .tc .vmem S1024x1 .i32}
  {M9 M10 M11 : Memref sig .tc .vmem S1024x32 .f32}

theorem off_eq {o : Fin 2 → ℕ} {x y : ℕ} (h : o = ![x, 0]) (e : x = y) : o = ![y, 0] := e ▸ h

/-- The block's scratch read whole. -/
theorem readAt_A13 (f : S1024x32.Idx → Elt F .bf16) :
    A13.view.readAt (Elt F) (Rect.unit (s := S1024x32) ![0, 0] S1024x32.size inb_S1024x32_S1024x32_0_0).toLoadRect f = f := by
  rw [View.readAt_full A13.view f inb_S1024x32_S1024x32_0_0]; rfl

set_option maxHeartbeats 4000000 in
/-- A middle point: it takes delivery of the copies of the point before, and leaves its own in flight. -/
theorem step_mid (c : Dev nD) (i : grid1.Coords) (h1 : ¬ k1_cond1 i = 1#1) (h2 : k1_cond2 i = 1#1) (h3 : k1_cond3 i = 1#1) (h4 : k1_cond4 i = 1#1) (h5 : k1_cond5 i = 1#1)
    (h6 : k1_cond6 i = 1#1) (h7 : ¬ k1_cond7 i = 1#1) (h8 : ¬ k1_cond8 i = 1#1)
    (hM1 : M1.IsWhole) (hM2 : M2.IsWhole) (hM3 : M3.IsWhole) (hM4 : M4.IsWhole) (hM5 : M5.IsWhole) (hM6 : M6.IsWhole) (hM7 : M7.IsWhole)
    (hM9 : M9.IsWhole) (hM10 : M10.IsWhole) (hM11 : M11.IsWhole)
    (f1 : bufAt (F := F) c M1) (A0 : S32x100352.Idx → Elt F .f32) (hA : M1.view.read (Elt F) f1 = cols A0 2048 (i 0).val) (q : S1024x32.Idx → Elt F .bf16)
    (r : ℕ) (n : Buf (Elt F) (A8.view.loc (c : Thread nD τ))) (W : Waits sig (HIx 1)) (Q : PUnit → sProp 𝕄) :
    iprop((M1.view.loc (c : Thread nD τ) ↦{fullShare} f1) ∗ (A13.view.loc (c : Thread nD τ) ↦{fullShare} q)
      ∗ fly4 c r (scoreT A0 q) ∗ rowsAt c (2048 * (i 0).val) (2048 * (i 0).val + 2048) n
      ∗ owes (c : Thread nD τ) 0 W
      ∗ (((M1.view.loc (c : Thread nD τ) ↦{fullShare} f1) ∗ (A13.view.loc (c : Thread nD τ) ↦{fullShare} q)
        ∗ rowsAt c r (r + 2048) (scoreT A0 q) ∗ fly4 c (2048 * (i 0).val) (scoreT A0 q) ∗ (∃ W', ⌜∀ p ∈ W', p ∈ W ∨ p.2 = (default : HIx 1)⌝ ∗ owes (c : Thread nD τ) 0 W')) -∗ Q ⟨⟩))
      ⊢ wp frame (wpE (defs₀ (F := F)) 𝒱₀ (c : Thread nD τ) none) Set.univ
        (cc1__score_block_kernel i M1 hM1 M2 hM2 M3 hM3 M4 hM4 M5 hM5 M6 hM6 M7 hM7 A8 (Memref.isWhole_whole _) M9 hM9 M10 hM10 M11 hM11 A12 (Memref.isWhole_whole _) A13 (Memref.isWhole_whole _) cc1_scratch2) Q := by
  rw [cc1__score_block_kernel_eq_skeleton]
  unfold cc1__score_block_kernel_skel
  rw [k1_part4_eq_skeleton, k1_part5_eq_skeleton]
  unfold k1_part4_skel k1_part5_skel
  iintro ⟨H1, Hq, HFs, Hn, HO, HQ⟩
  ihave HFs := (by unfold fly4 fly; exact .rfl : (fly4 c r (scoreT A0 q) : sProp 𝕄) ⊢ iprop((∃ f, flR c dsem0 (rows r (r + 512)) slot0 (scoreT A0 q) f)
    ∗ (∃ f, flR c dsem1 (rows (r + 512) (r + 512 + 512)) slot1 (scoreT A0 q) f) ∗ (∃ f, flR c dsem2 (rows (r + 1024) (r + 1024 + 512)) slot2 (scoreT A0 q) f)
    ∗ (∃ f, flR c dsem3 (rows (r + 1536) (r + 1536 + 512)) slot3 (scoreT A0 q) f))) $$ HFs
  icases HFs with ⟨⟨%b0, HF0⟩, ⟨%b1, HF1⟩, ⟨%b2, HF2⟩, ⟨%b3, HF3⟩⟩
  ihave Hn := (rows4 c (2048 * (i 0).val) n).1 $$ Hn
  icases Hn with ⟨Hn0, Hn1, Hn2, Hn3⟩
  ihave Hn0 := pieceP c (k1_off2_inb i 0) (k1_off2_eq i 0) n $$ Hn0
  ihave Hn1 := pieceP c (k1_off2_inb i 1) (k1_off2_eq i 1) n $$ Hn1
  ihave Hn2 := pieceP c (k1_off2_inb i 2) (k1_off2_eq i 2) n $$ Hn2
  ihave Hn3 := pieceP c (k1_off6_inb i h6) (k1_off6_eq i) n $$ Hn3
  sl_exec
  sl_step
  have v0 : ∀ y, step_mid.sl.dma4 c f1 q b0 y = k1_pay12 q (cols A0 512 (4 * (i 0).val + 0)) y := by
    intro y
    unfold step_mid.sl.dma4 step_mid.sl.HF0_src_w1
    refine slot_sent inb_S4x512x1024_S1x512x1024_0_0_0 b0 _ _ rfl (fun z => ?_) y
    rw [readAt_A13 (F := F), readAt_cols A0 f1 (i 0).val 0 (by decide) hA 0 rfl]
    rfl
  have v1 : ∀ y, step_mid.sl.dma7 c f1 q b1 y = k1_pay12 q (cols A0 512 (4 * (i 0).val + 1)) y := by
    intro y
    unfold step_mid.sl.dma7 step_mid.sl.HF1_src_w2
    refine slot_sent inb_S4x512x1024_S1x512x1024_1_0_0 b1 _ _ rfl (fun z => ?_) y
    rw [readAt_A13 (F := F), readAt_cols A0 f1 (i 0).val 1 (by decide) hA 512 rfl]
    rfl
  have v2 : ∀ y, step_mid.sl.dma10 c f1 q b2 y = k1_pay12 q (cols A0 512 (4 * (i 0).val + 2)) y := by
    intro y
    unfold step_mid.sl.dma10 step_mid.sl.HF2_src_w3
    refine slot_sent inb_S4x512x1024_S1x512x1024_2_0_0 b2 _ _ rfl (fun z => ?_) y
    rw [readAt_A13 (F := F), readAt_cols A0 f1 (i 0).val 2 (by decide) hA 1024 rfl]
    rfl
  have v3 : ∀ y, step_mid.sl.dma13 c f1 q b3 y = k1_pay12 q (cols A0 512 (4 * (i 0).val + 3)) y := by
    intro y
    unfold step_mid.sl.dma13 step_mid.sl.HF3_src_w4
    refine slot_sent inb_S4x512x1024_S1x512x1024_3_0_0 b3 _ _ rfl (fun z => ?_) y
    rw [readAt_A13 (F := F), readAt_cols A0 f1 (i 0).val 3 (by decide) hA 1536 rfl]
    rfl
  ihave HF0 := flyP c dsem0 slot0 (step_mid.sl.HF0_src_w1 c f1 q b0) (k1_off2_inb i 0) (4 * (i 0).val + 0) (off_eq (k1_off2_eq i 0) (by omega)) n A0 q _ v0 (2048 * (i 0).val) (by omega) $$ HF0
  ihave HF1 := flyP c dsem1 slot1 (step_mid.sl.HF1_src_w2 c f1 q b1) (k1_off2_inb i 1) (4 * (i 0).val + 1) (off_eq (k1_off2_eq i 1) (by omega)) n A0 q _ v1 (2048 * (i 0).val + 512) (by omega) $$ HF1
  ihave HF2 := flyP c dsem2 slot2 (step_mid.sl.HF2_src_w3 c f1 q b2) (k1_off2_inb i 2) (4 * (i 0).val + 2) (off_eq (k1_off2_eq i 2) (by omega)) n A0 q _ v2 (2048 * (i 0).val + 1024) (by omega) $$ HF2
  ihave HF3 := flyP c dsem3 slot3 (step_mid.sl.HF3_src_w4 c f1 q b3) (k1_off6_inb i h6) (4 * (i 0).val + 3) (off_eq (k1_off6_eq i) (by omega)) n A0 q _ v3 (2048 * (i 0).val + 1536) (by omega) $$ HF3
  iapply HQ
  isplitl [H1]
  · iexact H1
  isplitl [Hq]
  · iexact Hq
  isplitl [HF0_dst HF1_dst HF2_dst HF3_dst]
  · iapply (rows4 c r (scoreT A0 q)).2
    isplitl [HF0_dst]
    · iexact HF0_dst
    isplitl [HF1_dst]
    · iexact HF1_dst
    isplitl [HF2_dst]
    · iexact HF2_dst
    · iexact HF3_dst
  isplitl [HF0 HF1 HF2 HF3]
  · unfold fly4
    isplitl [HF0]
    · iexact HF0
    isplitl [HF1]
    · iexact HF1
    isplitl [HF2]
    · iexact HF2
    · iexact HF3
  · iexists _
    isplitr [HO]; swap; · iexact HO
    ipureintro; intro p hp
    simp only [Finset.mem_insert] at hp
    repeat' (rcases hp with rfl | hp; · exact Or.inr rfl)
    exact Or.inl hp

/-- The same, the row written out. -/
theorem landAt (c : Dev nD) {o : Fin 2 → Nat} (h) (m : ℕ) (e : o = ![512 * m, 0]) (n : Buf (Elt F) (A8.view.loc (c : Thread nD τ)))
    (A0 : S32x100352.Idx → Elt F .f32) (q : S1024x32.Idx → Elt F .bf16) (w : S512x1024.Idx → Elt F .f32) (hw : ∀ y, w y = k1_pay12 q (cols A0 512 m) y)
    (r : ℕ) (hr : 512 * m = r) :
    (own c (outP o h) ((outP o h).view.writes (Elt F) n [⟨Rect.whole S512x1024, w⟩]) : sProp 𝕄) ⊢ rowsAt c r (r + 512) (scoreT A0 q) := by
  subst hr; exact landP c h m e n A0 q w hw
theorem landTAt (c : Dev nD) {o : Fin 2 → Nat} (h) (m : ℕ) (e : o = ![512 * m, 0]) (n : Buf (Elt F) (A8.view.loc (c : Thread nD τ)))
    (A0 : S32x100352.Idx → Elt F .f32) (q : S1024x32.Idx → Elt F .bf16) (w : S160x1024.Idx → Elt F .f32)
    (hw : ∀ (y : S160x1024.Idx) (y' : S512x1024.Idx), (y' 0).val = (y 0).val → (y' 1).val = (y 1).val → w y = k1_pay12 q (cols A0 512 m) y')
    (r : ℕ) (hr : 512 * m = r) :
    (own c (outT o h) ((outT o h).view.writes (Elt F) n [⟨Rect.whole S160x1024, w⟩]) : sProp 𝕄) ⊢ rowsAt c r (r + 160) (scoreT A0 q) := by
  subst hr; exact landT c h m e n A0 q w hw

/-- The last slot but for its first 160 rows. -/
def rest3 (c : Dev nD) (f : Buf (Elt F) (A12.view.loc (c : Thread nD τ))) : sProp 𝕄 :=
  A12.view.loc (c : Thread nD τ) ↦[slot3.view.set \ tail3.view.set]{fullShare} f
theorem tail_split (c : Dev nD) (f : Buf (Elt F) (A12.view.loc (c : Thread nD τ))) : (own c slot3 f : sProp 𝕄) ⊢ iprop(own c tail3 f ∗ rest3 c f) :=
  (pointsTo_split_subset (ℓ := A12.view.loc (c : Thread nD τ)) tail3_subset).1
theorem tail_join (c : Dev nD) (f : Buf (Elt F) (A12.view.loc (c : Thread nD τ))) : iprop(own c tail3 f ∗ rest3 c f) ⊢ (own c slot3 f : sProp 𝕄) :=
  (pointsTo_split_subset (ℓ := A12.view.loc (c : Thread nD τ)) tail3_subset).2

set_option maxHeartbeats 4000000 in
/-- The last point: it takes delivery of the copies of the point before, starts its own — the fourth is 160 rows — and waits for them. -/
theorem step_last (c : Dev nD) (i : grid1.Coords) (h1 : ¬ k1_cond1 i = 1#1) (h2 : k1_cond2 i = 1#1) (h3 : k1_cond3 i = 1#1) (h4 : k1_cond4 i = 1#1) (h5 : k1_cond5 i = 1#1)
    (h6 : ¬ k1_cond6 i = 1#1) (h7 : k1_cond7 i = 1#1) (h8 : k1_cond8 i = 1#1)
    (hM1 : M1.IsWhole) (hM2 : M2.IsWhole) (hM3 : M3.IsWhole) (hM4 : M4.IsWhole) (hM5 : M5.IsWhole) (hM6 : M6.IsWhole) (hM7 : M7.IsWhole)
    (hM9 : M9.IsWhole) (hM10 : M10.IsWhole) (hM11 : M11.IsWhole)
    (f1 : bufAt (F := F) c M1) (A0 : S32x100352.Idx → Elt F .f32) (hA : M1.view.read (Elt F) f1 = cols A0 2048 (i 0).val) (q : S1024x32.Idx → Elt F .bf16)
    (r : ℕ) (n : Buf (Elt F) (A8.view.loc (c : Thread nD τ))) (W : Waits sig (HIx 1)) (Q : PUnit → sProp 𝕄) :
    iprop((M1.view.loc (c : Thread nD τ) ↦{fullShare} f1) ∗ (A13.view.loc (c : Thread nD τ) ↦{fullShare} q)
      ∗ fly4 c r (scoreT A0 q) ∗ rowsAt c (2048 * (i 0).val) (2048 * (i 0).val + 1696) n
      ∗ owes (c : Thread nD τ) 0 W
      ∗ (((M1.view.loc (c : Thread nD τ) ↦{fullShare} f1) ∗ (A13.view.loc (c : Thread nD τ) ↦{fullShare} q)
        ∗ rowsAt c r (r + 2048) (scoreT A0 q) ∗ rowsAt c (2048 * (i 0).val) (2048 * (i 0).val + 1696) (scoreT A0 q)
        ∗ (∃ b : S4x512x1024.Idx → Elt F .f32, A12.view.loc (c : Thread nD τ) ↦{fullShare} b)
        ∗ semVal ((c : Thread nD τ), SemLoc.dma dsem0) 0 ∗ semVal ((c : Thread nD τ), SemLoc.dma dsem1) 0 ∗ semVal ((c : Thread nD τ), SemLoc.dma dsem2) 0 ∗ semVal ((c : Thread nD τ), SemLoc.dma dsem3) 0
        ∗ (∃ W', ⌜∀ p ∈ W', p ∈ W ∨ p.2 = (default : HIx 1)⌝ ∗ owes (c : Thread nD τ) 0 W')) -∗ Q ⟨⟩))
      ⊢ wp frame (wpE (defs₀ (F := F)) 𝒱₀ (c : Thread nD τ) none) Set.univ
        (cc1__score_block_kernel i M1 hM1 M2 hM2 M3 hM3 M4 hM4 M5 hM5 M6 hM6 M7 hM7 A8 (Memref.isWhole_whole _) M9 hM9 M10 hM10 M11 hM11 A12 (Memref.isWhole_whole _) A13 (Memref.isWhole_whole _) cc1_scratch2) Q := by
  rw [cc1__score_block_kernel_eq_skeleton]
  unfold cc1__score_block_kernel_skel
  rw [k1_part4_eq_skeleton, k1_part5_eq_skeleton]
  unfold k1_part4_skel k1_part5_skel
  iintro ⟨H1, Hq, HFs, Hn, HO, HQ⟩
  ihave HFs := (by unfold fly4 fly; exact .rfl : (fly4 c r (scoreT A0 q) : sProp 𝕄) ⊢ iprop((∃ f, flR c dsem0 (rows r (r + 512)) slot0 (scoreT A0 q) f)
    ∗ (∃ f, flR c dsem1 (rows (r + 512) (r + 512 + 512)) slot1 (scoreT A0 q) f) ∗ (∃ f, flR c dsem2 (rows (r + 1024) (r + 1024 + 512)) slot2 (scoreT A0 q) f)
    ∗ (∃ f, flR c dsem3 (rows (r + 1536) (r + 1536 + 512)) slot3 (scoreT A0 q) f))) $$ HFs
  icases HFs with ⟨⟨%b0, HF0⟩, ⟨%b1, HF1⟩, ⟨%b2, HF2⟩, ⟨%b3, HF3⟩⟩
  ihave Hn := (rows4' c (2048 * (i 0).val) n).1 $$ Hn
  icases Hn with ⟨Hn0, Hn1, Hn2, Hn3⟩
  ihave Hn0 := pieceP c (k1_off2_inb i 0) (k1_off2_eq i 0) n $$ Hn0
  ihave Hn1 := pieceP c (k1_off2_inb i 1) (k1_off2_eq i 1) n $$ Hn1
  ihave Hn2 := pieceP c (k1_off2_inb i 2) (k1_off2_eq i 2) n $$ Hn2
  ihave Hn3 := pieceT c (k1_off7_inb i h7) (k1_off7_eq i) n $$ Hn3
  sl_exec
  ihave HF3_src := tail_split c _ $$ HF3_src
  icases HF3_src with ⟨Ht3, Hrest⟩
  sl_exec
  sl_step
  have v0 : ∀ y, step_last.sl.dma4 c f1 q b0 y = k1_pay12 q (cols A0 512 (4 * (i 0).val + 0)) y := by
    intro y
    unfold step_last.sl.dma4 step_last.sl.HF0_src_w1
    refine slot_sent inb_S4x512x1024_S1x512x1024_0_0_0 b0 _ _ rfl (fun z => ?_) y
    rw [readAt_A13 (F := F), readAt_cols A0 f1 (i 0).val 0 (by decide) hA 0 rfl]
    rfl
  have v1 : ∀ y, step_last.sl.dma7 c f1 q b1 y = k1_pay12 q (cols A0 512 (4 * (i 0).val + 1)) y := by
    intro y
    unfold step_last.sl.dma7 step_last.sl.HF1_src_w2
    refine slot_sent inb_S4x512x1024_S1x512x1024_1_0_0 b1 _ _ rfl (fun z => ?_) y
    rw [readAt_A13 (F := F), readAt_cols A0 f1 (i 0).val 1 (by decide) hA 512 rfl]
    rfl
  have v2 : ∀ y, step_last.sl.dma10 c f1 q b2 y = k1_pay12 q (cols A0 512 (4 * (i 0).val + 2)) y := by
    intro y
    unfold step_last.sl.dma10 step_last.sl.HF2_src_w3
    refine slot_sent inb_S4x512x1024_S1x512x1024_2_0_0 b2 _ _ rfl (fun z => ?_) y
    rw [readAt_A13 (F := F), readAt_cols A0 f1 (i 0).val 2 (by decide) hA 1024 rfl]
    rfl
  have v3 : ∀ (y : S160x1024.Idx) (y' : S512x1024.Idx), (y' 0).val = (y 0).val → (y' 1).val = (y 1).val →
      step_last.sl.dma0 c f1 q b3 y = k1_pay12 q (cols A0 512 (4 * (i 0).val + 3)) y' := by
    intro y y' e0 e1
    unfold step_last.sl.dma0 step_last.sl.HF3_src_w4
    refine tail_sent b3 _ _ rfl (fun z => ?_) y y' e0 e1
    rw [readAt_A13 (F := F), readAt_cols A0 f1 (i 0).val 3 (by decide) hA 1536 rfl]
    rfl
  ihave Hn0 := landAt c (k1_off2_inb i 0) (4 * (i 0).val + 0) (off_eq (k1_off2_eq i 0) (by omega)) n A0 q _ v0 (2048 * (i 0).val) (by omega) $$ Hn0
  ihave Hn1 := landAt c (k1_off2_inb i 1) (4 * (i 0).val + 1) (off_eq (k1_off2_eq i 1) (by omega)) n A0 q _ v1 (2048 * (i 0).val + 512) (by omega) $$ Hn1
  ihave Hn2 := landAt c (k1_off2_inb i 2) (4 * (i 0).val + 2) (off_eq (k1_off2_eq i 2) (by omega)) n A0 q _ v2 (2048 * (i 0).val + 1024) (by omega) $$ Hn2
  ihave Hn3 := landTAt c (k1_off7_inb i h7) (4 * (i 0).val + 3) (off_eq (k1_off7_eq i) (by omega)) n A0 q _ v3 (2048 * (i 0).val + 1536) (by omega) $$ Hn3
  ihave HF3_src := tail_join c (step_last.sl.HF3_src_w4 c f1 q b3) $$ [Ht3 Hrest]
  · isplitl [Ht3]
    · iexact Ht3
    · iexact Hrest
  ihave HA := slots_join c (step_last.sl.HF0_src_w1 c f1 q b0) (step_last.sl.HF1_src_w2 c f1 q b1) (step_last.sl.HF2_src_w3 c f1 q b2) (step_last.sl.HF3_src_w4 c f1 q b3) $$ [HF0_src HF1_src HF2_src HF3_src]
  · isplitl [HF0_src]
    · iexact HF0_src
    isplitl [HF1_src]
    · iexact HF1_src
    isplitl [HF2_src]
    · iexact HF2_src
    · iexact HF3_src
  iapply HQ
  isplitl [H1]
  · iexact H1
  isplitl [Hq]
  · iexact Hq
  isplitl [HF0_dst HF1_dst HF2_dst HF3_dst]
  · iapply (rows4 c r (scoreT A0 q)).2
    isplitl [HF0_dst]
    · iexact HF0_dst
    isplitl [HF1_dst]
    · iexact HF1_dst
    isplitl [HF2_dst]
    · iexact HF2_dst
    · iexact HF3_dst
  isplitl [Hn0 Hn1 Hn2 Hn3]
  · iapply (rows4' c (2048 * (i 0).val) (scoreT A0 q)).2
    isplitl [Hn0]
    · iexact Hn0
    isplitl [Hn1]
    · iexact Hn1
    isplitl [Hn2]
    · iexact Hn2
    · iexact Hn3
  isplitl [HA]
  · iexact HA
  isplitl [HF0]
  · iexact HF0
  isplitl [HF1]
  · iexact HF1
  isplitl [HF2]
  · iexact HF2
  isplitl [HF3]
  · iexact HF3
  · iexists _
    isplitr [HO]; swap; · iexact HO
    ipureintro; intro p hp
    simp only [Finset.mem_insert] at hp
    repeat' (rcases hp with rfl | hp; · exact Or.inr rfl)
    exact Or.inl hp

/-- The rows a grid point selects: from four packed rows of 32, the one its chunk word names — the left rows, -/
def lhsB (l4 : S1024x128.Idx → Elt F .f32) (ch : S1024x1.Idx → Elt F .i32) : S1024x32.Idx → Elt F .f32 := k1_pay2 l4 ch
/-- the relation rows, -/
def relB (r4 : S1024x128.Idx → Elt F .f32) (ch : S1024x1.Idx → Elt F .i32) : S1024x32.Idx → Elt F .f32 :=
  k1_pay8 (k1_pay3 r4) (k1_pay4 ch) (k1_pay5 r4 ch) (k1_pay6 r4) (k1_pay7 ch)
/-- and the right rows. -/
def rhsB (t4 : S1024x128.Idx → Elt F .f32) (ch : S1024x1.Idx → Elt F .i32) : S1024x32.Idx → Elt F .f32 := k1_pay9 t4 ch
/-- The query products, rounded for the matrix unit. -/
def q16 (l r : S1024x32.Idx → Elt F .f32) : S1024x32.Idx → Elt F .bf16 := k1_pay10 l r

set_option maxHeartbeats 4000000 in
/-- The first point: it selects the query rows, fills the scratch of query products, and leaves its four copies in flight. -/
theorem step_first (c : Dev nD) (i : grid1.Coords) (h1 : k1_cond1 i = 1#1) (h2 : ¬ k1_cond2 i = 1#1) (h3 : ¬ k1_cond3 i = 1#1) (h4 : ¬ k1_cond4 i = 1#1) (h5 : ¬ k1_cond5 i = 1#1)
    (h6 : k1_cond6 i = 1#1) (h7 : ¬ k1_cond7 i = 1#1) (h8 : ¬ k1_cond8 i = 1#1)
    (hM1 : M1.IsWhole) (hM2 : M2.IsWhole) (hM3 : M3.IsWhole) (hM4 : M4.IsWhole) (hM5 : M5.IsWhole) (hM6 : M6.IsWhole) (hM7 : M7.IsWhole)
    (hM9 : M9.IsWhole) (hM10 : M10.IsWhole) (hM11 : M11.IsWhole)
    (f1 : bufAt (F := F) c M1) (f2 : bufAt (F := F) c M2) (f3 : bufAt (F := F) c M3) (f4 : bufAt (F := F) c M4)
    (f5 : bufAt (F := F) c M5) (f6 : bufAt (F := F) c M6) (f7 : bufAt (F := F) c M7)
    (f9 : bufAt (F := F) c M9) (f10 : bufAt (F := F) c M10) (f11 : bufAt (F := F) c M11)
    (A0 : S32x100352.Idx → Elt F .f32) (hA : M1.view.read (Elt F) f1 = cols A0 2048 (i 0).val)
    (q : S1024x32.Idx → Elt F .bf16) (hq : q = q16 (lhsB (M2.view.read (Elt F) f2) (M5.view.read (Elt F) f5)) (relB (M3.view.read (Elt F) f3) (M6.view.read (Elt F) f6)))
    (fq : S1024x32.Idx → Elt F .bf16) (b0 b1 b2 b3 : S4x512x1024.Idx → Elt F .f32)
    (n : Buf (Elt F) (A8.view.loc (c : Thread nD τ))) (W : Waits sig (HIx 1)) (Q : PUnit → sProp 𝕄) :
    iprop((M1.view.loc (c : Thread nD τ) ↦{fullShare} f1) ∗ (M2.view.loc (c : Thread nD τ) ↦{fullShare} f2) ∗ (M3.view.loc (c : Thread nD τ) ↦{fullShare} f3)
      ∗ (M4.view.loc (c : Thread nD τ) ↦{fullShare} f4) ∗ (M5.view.loc (c : Thread nD τ) ↦{fullShare} f5) ∗ (M6.view.loc (c : Thread nD τ) ↦{fullShare} f6) ∗ (M7.view.loc (c : Thread nD τ) ↦{fullShare} f7)
      ∗ (M9.view.loc (c : Thread nD τ) ↦{fullShare} f9) ∗ (M10.view.loc (c : Thread nD τ) ↦{fullShare} f10) ∗ (M11.view.loc (c : Thread nD τ) ↦{fullShare} f11)
      ∗ (A13.view.loc (c : Thread nD τ) ↦{fullShare} fq)
      ∗ own c slot0 b0 ∗ own c slot1 b1 ∗ own c slot2 b2 ∗ own c slot3 b3
      ∗ semVal ((c : Thread nD τ), SemLoc.dma dsem0) 0 ∗ semVal ((c : Thread nD τ), SemLoc.dma dsem1) 0 ∗ semVal ((c : Thread nD τ), SemLoc.dma dsem2) 0 ∗ semVal ((c : Thread nD τ), SemLoc.dma dsem3) 0
      ∗ rowsAt c (2048 * (i 0).val) (2048 * (i 0).val + 2048) n
      ∗ owes (c : Thread nD τ) 0 W
      ∗ (((M1.view.loc (c : Thread nD τ) ↦{fullShare} f1) ∗ (M2.view.loc (c : Thread nD τ) ↦{fullShare} f2) ∗ (M3.view.loc (c : Thread nD τ) ↦{fullShare} f3)
        ∗ (M4.view.loc (c : Thread nD τ) ↦{fullShare} f4) ∗ (M5.view.loc (c : Thread nD τ) ↦{fullShare} f5) ∗ (M6.view.loc (c : Thread nD τ) ↦{fullShare} f6) ∗ (M7.view.loc (c : Thread nD τ) ↦{fullShare} f7)
        ∗ (∃ g, ⌜M9.view.read (Elt F) g = lhsB (M2.view.read (Elt F) f2) (M5.view.read (Elt F) f5)⌝ ∗ (M9.view.loc (c : Thread nD τ) ↦{fullShare} g))
        ∗ (∃ g, ⌜M10.view.read (Elt F) g = relB (M3.view.read (Elt F) f3) (M6.view.read (Elt F) f6)⌝ ∗ (M10.view.loc (c : Thread nD τ) ↦{fullShare} g))
        ∗ (∃ g, ⌜M11.view.read (Elt F) g = rhsB (M4.view.read (Elt F) f4) (M7.view.read (Elt F) f7)⌝ ∗ (M11.view.loc (c : Thread nD τ) ↦{fullShare} g))
        ∗ (A13.view.loc (c : Thread nD τ) ↦{fullShare} q)
        ∗ fly4 c (2048 * (i 0).val) (scoreT A0 q) ∗ (∃ W', ⌜∀ p ∈ W', p ∈ W ∨ p.2 = (default : HIx 1)⌝ ∗ owes (c : Thread nD τ) 0 W')) -∗ Q ⟨⟩))
      ⊢ wp frame (wpE (defs₀ (F := F)) 𝒱₀ (c : Thread nD τ) none) Set.univ
        (cc1__score_block_kernel i M1 hM1 M2 hM2 M3 hM3 M4 hM4 M5 hM5 M6 hM6 M7 hM7 A8 (Memref.isWhole_whole _) M9 hM9 M10 hM10 M11 hM11 A12 (Memref.isWhole_whole _) A13 (Memref.isWhole_whole _) cc1_scratch2) Q := by
  rw [cc1__score_block_kernel_eq_skeleton]
  unfold cc1__score_block_kernel_skel
  rw [k1_part4_eq_skeleton, k1_part5_eq_skeleton]
  unfold k1_part4_skel k1_part5_skel
  rw [k1_part1_eq_skeleton, k1_part2_eq_skeleton]
  unfold k1_part1_skel k1_part2_skel
  iintro ⟨H1, H2, H3, H4, H5, H6, H7, H9, H10, H11, Hq, Hs0, Hs1, Hs2, Hs3, HF0, HF1, HF2, HF3, Hn, HO, HQ⟩
  ihave Hn := (rows4 c (2048 * (i 0).val) n).1 $$ Hn
  icases Hn with ⟨Hn0, Hn1, Hn2, Hn3⟩
  ihave Hn0 := pieceP c (k1_off2_inb i 0) (k1_off2_eq i 0) n $$ Hn0
  ihave Hn1 := pieceP c (k1_off2_inb i 1) (k1_off2_eq i 1) n $$ Hn1
  ihave Hn2 := pieceP c (k1_off2_inb i 2) (k1_off2_eq i 2) n $$ Hn2
  ihave Hn3 := pieceP c (k1_off6_inb i h6) (k1_off6_eq i) n $$ Hn3
  sl_exec
  sl_step
  have eq3 : step_first.sl.v3 c f2 f3 f5 f6 = q := by
    unfold step_first.sl.v3 step_first.sl.Hq_1
    rw [View.readCov_full, hq]
    unfold q16 lhsB relB
    rw [View.readAt_full M2.view f2, View.readAt_full M3.view f3, View.readAt_full M5.view f5, View.readAt_full M6.view f6]
  have eqA : A13.view.writes (Elt F) fq (step_first.sl.Hq_1 c f2 f3 f5 f6) = q := by
    refine Eq.trans ?_ eq3
    unfold step_first.sl.v3 step_first.sl.Hq_1
    rw [View.readCov_full]
    exact View.read_writes_full A13.view fq _ _ _
  have v0 : ∀ y, step_first.sl.dma18 c f1 f2 f3 f5 f6 b0 y = k1_pay12 q (cols A0 512 (4 * (i 0).val + 0)) y := by
    intro y
    unfold step_first.sl.dma18 step_first.sl.Hs0_w1
    refine slot_sent inb_S4x512x1024_S1x512x1024_0_0_0 b0 _ _ rfl (fun z => ?_) y
    rw [eq3, readAt_cols A0 f1 (i 0).val 0 (by decide) hA 0 rfl]
    rfl
  have v1 : ∀ y, step_first.sl.dma21 c f1 f2 f3 f5 f6 b1 y = k1_pay12 q (cols A0 512 (4 * (i 0).val + 1)) y := by
    intro y
    unfold step_first.sl.dma21 step_first.sl.Hs1_w2
    refine slot_sent inb_S4x512x1024_S1x512x1024_1_0_0 b1 _ _ rfl (fun z => ?_) y
    rw [eq3, readAt_cols A0 f1 (i 0).val 1 (by decide) hA 512 rfl]
    rfl
  have v2 : ∀ y, step_first.sl.dma24 c f1 f2 f3 f5 f6 b2 y = k1_pay12 q (cols A0 512 (4 * (i 0).val + 2)) y := by
    intro y
    unfold step_first.sl.dma24 step_first.sl.Hs2_w3
    refine slot_sent inb_S4x512x1024_S1x512x1024_2_0_0 b2 _ _ rfl (fun z => ?_) y
    rw [eq3, readAt_cols A0 f1 (i 0).val 2 (by decide) hA 1024 rfl]
    rfl
  have v3 : ∀ y, step_first.sl.dma27 c f1 f2 f3 f5 f6 b3 y = k1_pay12 q (cols A0 512 (4 * (i 0).val + 3)) y := by
    intro y
    unfold step_first.sl.dma27 step_first.sl.Hs3_w4
    refine slot_sent inb_S4x512x1024_S1x512x1024_3_0_0 b3 _ _ rfl (fun z => ?_) y
    rw [eq3, readAt_cols A0 f1 (i 0).val 3 (by decide) hA 1536 rfl]
    rfl
  ihave HF0 := flyP c dsem0 slot0 (step_first.sl.Hs0_w1 c f1 f2 f3 f5 f6 b0) (k1_off2_inb i 0) (4 * (i 0).val + 0) (off_eq (k1_off2_eq i 0) (by omega)) n A0 q _ v0 (2048 * (i 0).val + 0) (by omega) $$ HF0
  ihave HF1 := flyP c dsem1 slot1 (step_first.sl.Hs1_w2 c f1 f2 f3 f5 f6 b1) (k1_off2_inb i 1) (4 * (i 0).val + 1) (off_eq (k1_off2_eq i 1) (by omega)) n A0 q _ v1 (2048 * (i 0).val + 512) (by omega) $$ HF1
  ihave HF2 := flyP c dsem2 slot2 (step_first.sl.Hs2_w3 c f1 f2 f3 f5 f6 b2) (k1_off2_inb i 2) (4 * (i 0).val + 2) (off_eq (k1_off2_eq i 2) (by omega)) n A0 q _ v2 (2048 * (i 0).val + 1024) (by omega) $$ HF2
  ihave HF3 := flyP c dsem3 slot3 (step_first.sl.Hs3_w4 c f1 f2 f3 f5 f6 b3) (k1_off6_inb i h6) (4 * (i 0).val + 3) (off_eq (k1_off6_eq i) (by omega)) n A0 q _ v3 (2048 * (i 0).val + 1536) (by omega) $$ HF3
  iapply HQ
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H9]
  · iexists _
    isplitr
    rotate_left
    · iexact H9
    · ipureintro
      rw [View.read_writes_full M9.view f9]
      unfold lhsB
      rw [View.readAt_full M2.view f2, View.readAt_full M5.view f5]
  isplitl [H10]
  · iexists _
    isplitr
    rotate_left
    · iexact H10
    · ipureintro
      rw [View.read_writes_full M10.view f10]
      unfold relB
      rw [View.readAt_full M3.view f3, View.readAt_full M6.view f6]
  isplitl [H11]
  · iexists _
    isplitr
    rotate_left
    · iexact H11
    · ipureintro
      rw [View.read_writes_full M11.view f11]
      unfold rhsB
      rw [View.readAt_full M4.view f4, View.readAt_full M7.view f7]
  isplitl [Hq]
  · rw [← eqA]; iexact Hq
  isplitl [HF0 HF1 HF2 HF3]
  · unfold fly4
    isplitl [HF0]
    · iexact HF0
    isplitl [HF1]
    · iexact HF1
    isplitl [HF2]
    · iexact HF2
    · iexact HF3
  · iexists _
    isplitr [HO]; swap; · iexact HO
    ipureintro; intro p hp
    exact Or.inl hp

end Cert.Proof.Score

end
-- ==== Proof.RegionData.lean ====
/-
  The TensorCore call as its pipeline sees it: which branches the body takes at each of the 49 grid points, where each
  window's block lies in its array, the state the call keeps between points (`Φ`), what each staging buffer holds when the
  body runs, and what each array holds at the end.
-/
module

public import proofs.«01_k».proof.Proof.Body
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameBody
public import Idealize.ShloMosaic.Lib.Pipeline.Value

@[expose] public section

noncomputable section

namespace Cert.Proof.Score

open Cert.KernelIdeal Cert.KernelIdeal.Gen

open Idealize.ShloMosaic
open Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The branches, by the point -/

/-- The grid has one axis, and a point is its own coordinate. -/
theorem coord_val : ∀ t : Fin cfg1.N, ((grid1.coords t) 0).val = t.val := (by decide +kernel : ∀ t : Fin grid1.N, ((grid1.coords t) 0).val = t.val)

/-- The first point takes the two first-point branches only. -/
theorem conds_first : ∀ t : Fin cfg1.N, t.val = 0 → k1_cond1 (grid1.coords t) = 1#1 ∧ ¬ k1_cond2 (grid1.coords t) = 1#1 ∧ ¬ k1_cond3 (grid1.coords t) = 1#1
    ∧ ¬ k1_cond4 (grid1.coords t) = 1#1 ∧ ¬ k1_cond5 (grid1.coords t) = 1#1 ∧ k1_cond6 (grid1.coords t) = 1#1 ∧ ¬ k1_cond7 (grid1.coords t) = 1#1 ∧ ¬ k1_cond8 (grid1.coords t) = 1#1 :=
  (by decide +kernel : ∀ t : Fin grid1.N, t.val = 0 → _)
/-- A later point waits for the one before it, and unless it is the last starts a whole fourth copy. -/
theorem conds_mid : ∀ t : Fin cfg1.N, t.val ≠ 0 → t.val ≠ 48 → ¬ k1_cond1 (grid1.coords t) = 1#1 ∧ k1_cond2 (grid1.coords t) = 1#1 ∧ k1_cond3 (grid1.coords t) = 1#1
    ∧ k1_cond4 (grid1.coords t) = 1#1 ∧ k1_cond5 (grid1.coords t) = 1#1 ∧ k1_cond6 (grid1.coords t) = 1#1 ∧ ¬ k1_cond7 (grid1.coords t) = 1#1 ∧ ¬ k1_cond8 (grid1.coords t) = 1#1 :=
  (by decide +kernel : ∀ t : Fin grid1.N, t.val ≠ 0 → t.val ≠ 48 → _)
/-- The last point starts a short fourth copy and waits for all its own. -/
theorem conds_last : ∀ t : Fin cfg1.N, t.val = 48 → ¬ k1_cond1 (grid1.coords t) = 1#1 ∧ k1_cond2 (grid1.coords t) = 1#1 ∧ k1_cond3 (grid1.coords t) = 1#1
    ∧ k1_cond4 (grid1.coords t) = 1#1 ∧ k1_cond5 (grid1.coords t) = 1#1 ∧ ¬ k1_cond6 (grid1.coords t) = 1#1 ∧ k1_cond7 (grid1.coords t) = 1#1 ∧ k1_cond8 (grid1.coords t) = 1#1 :=
  (by decide +kernel : ∀ t : Fin grid1.N, t.val = 48 → _)

/-! ## The blocks -/

theorem index0 : ∀ t : Fin cfg1.N, win1_0.index t (0 : Fin 2) = 0 ∧ win1_0.index t (1 : Fin 2) = t.val := (by decide +kernel : ∀ t : Fin grid1.N, _)
theorem index1 : ∀ t : Fin cfg1.N, win1_1.index t (0 : Fin 2) = 0 ∧ win1_1.index t (1 : Fin 2) = 0 := (by decide +kernel : ∀ t : Fin grid1.N, _)
theorem index2 : ∀ t : Fin cfg1.N, win1_2.index t (0 : Fin 2) = 0 ∧ win1_2.index t (1 : Fin 2) = 0 := (by decide +kernel : ∀ t : Fin grid1.N, _)
theorem index3 : ∀ t : Fin cfg1.N, win1_3.index t (0 : Fin 2) = 0 ∧ win1_3.index t (1 : Fin 2) = 0 := (by decide +kernel : ∀ t : Fin grid1.N, _)
theorem index4 : ∀ t : Fin cfg1.N, win1_4.index t (0 : Fin 2) = 0 ∧ win1_4.index t (1 : Fin 2) = 0 := (by decide +kernel : ∀ t : Fin grid1.N, _)
theorem index5 : ∀ t : Fin cfg1.N, win1_5.index t (0 : Fin 2) = 0 ∧ win1_5.index t (1 : Fin 2) = 0 := (by decide +kernel : ∀ t : Fin grid1.N, _)
theorem index6 : ∀ t : Fin cfg1.N, win1_6.index t (0 : Fin 2) = 0 ∧ win1_6.index t (1 : Fin 2) = 0 := (by decide +kernel : ∀ t : Fin grid1.N, _)
theorem index7 : ∀ t : Fin cfg1.N, win1_7.index t (0 : Fin 2) = 0 ∧ win1_7.index t (1 : Fin 2) = 0 := (by decide +kernel : ∀ t : Fin grid1.N, _)
theorem index8 : ∀ t : Fin cfg1.N, win1_8.index t (0 : Fin 2) = 0 ∧ win1_8.index t (1 : Fin 2) = 0 := (by decide +kernel : ∀ t : Fin grid1.N, _)
theorem index9 : ∀ t : Fin cfg1.N, win1_9.index t (0 : Fin 2) = 0 ∧ win1_9.index t (1 : Fin 2) = 0 := (by decide +kernel : ∀ t : Fin grid1.N, _)

/-- Block `t` of the padded table: its columns from `2048 t`. -/
theorem blk0_read (t : Fin cfg1.N) (A : S32x100352.Idx → Elt F .f32) : ((cfg1.win 0).blk t).view.read (Elt F) A = cols A 2048 t.val := by
  obtain ⟨e0, e1⟩ := index0 t
  have ht : t.val < 49 := N_1 ▸ t.isLt
  funext j
  show A (((cfg1.win 0).blk t).view.emb j) = A _
  have h1 : (j 1).val < 2048 := (j 1).isLt
  refine congrArg A (funext fun a => Fin.ext ?_)
  match a with
  | ⟨0, _⟩ => show win1_0.index t (0 : Fin 2) * 32 + 1 * (j 0).val = (j 0).val; omega
  | ⟨1, _⟩ => show win1_0.index t (1 : Fin 2) * 2048 + 1 * (j 1).val = (2048 * t.val + (j 1).val) % 100352; rw [Nat.mod_eq_of_lt (by omega)]; omega

theorem emb1 (t : Fin cfg1.N) (j : S1024x128.Idx) : ((cfg1.win 1).blk t).view.emb j = j := by
  obtain ⟨e0, e1⟩ := index1 t
  funext a; apply Fin.ext
  match a with
  | ⟨0, _⟩ => show win1_1.index t (0 : Fin 2) * 1024 + 1 * (j 0).val = (j 0).val; omega
  | ⟨1, _⟩ => show win1_1.index t (1 : Fin 2) * 128 + 1 * (j 1).val = (j 1).val; omega
theorem emb2 (t : Fin cfg1.N) (j : S1024x128.Idx) : ((cfg1.win 2).blk t).view.emb j = j := by
  obtain ⟨e0, e1⟩ := index2 t
  funext a; apply Fin.ext
  match a with
  | ⟨0, _⟩ => show win1_2.index t (0 : Fin 2) * 1024 + 1 * (j 0).val = (j 0).val; omega
  | ⟨1, _⟩ => show win1_2.index t (1 : Fin 2) * 128 + 1 * (j 1).val = (j 1).val; omega
theorem emb3 (t : Fin cfg1.N) (j : S1024x128.Idx) : ((cfg1.win 3).blk t).view.emb j = j := by
  obtain ⟨e0, e1⟩ := index3 t
  funext a; apply Fin.ext
  match a with
  | ⟨0, _⟩ => show win1_3.index t (0 : Fin 2) * 1024 + 1 * (j 0).val = (j 0).val; omega
  | ⟨1, _⟩ => show win1_3.index t (1 : Fin 2) * 128 + 1 * (j 1).val = (j 1).val; omega
theorem emb4 (t : Fin cfg1.N) (j : S1024x1.Idx) : ((cfg1.win 4).blk t).view.emb j = j := by
  obtain ⟨e0, e1⟩ := index4 t
  funext a; apply Fin.ext
  match a with
  | ⟨0, _⟩ => show win1_4.index t (0 : Fin 2) * 1024 + 1 * (j 0).val = (j 0).val; omega
  | ⟨1, _⟩ => show win1_4.index t (1 : Fin 2) * 1 + 1 * (j 1).val = (j 1).val; omega
theorem emb5 (t : Fin cfg1.N) (j : S1024x1.Idx) : ((cfg1.win 5).blk t).view.emb j = j := by
  obtain ⟨e0, e1⟩ := index5 t
  funext a; apply Fin.ext
  match a with
  | ⟨0, _⟩ => show win1_5.index t (0 : Fin 2) * 1024 + 1 * (j 0).val = (j 0).val; omega
  | ⟨1, _⟩ => show win1_5.index t (1 : Fin 2) * 1 + 1 * (j 1).val = (j 1).val; omega
theorem emb6 (t : Fin cfg1.N) (j : S1024x1.Idx) : ((cfg1.win 6).blk t).view.emb j = j := by
  obtain ⟨e0, e1⟩ := index6 t
  funext a; apply Fin.ext
  match a with
  | ⟨0, _⟩ => show win1_6.index t (0 : Fin 2) * 1024 + 1 * (j 0).val = (j 0).val; omega
  | ⟨1, _⟩ => show win1_6.index t (1 : Fin 2) * 1 + 1 * (j 1).val = (j 1).val; omega
theorem emb7 (t : Fin cfg1.N) (j : S1024x32.Idx) : ((cfg1.win 7).blk t).view.emb j = j := by
  obtain ⟨e0, e1⟩ := index7 t
  funext a; apply Fin.ext
  match a with
  | ⟨0, _⟩ => show win1_7.index t (0 : Fin 2) * 1024 + 1 * (j 0).val = (j 0).val; omega
  | ⟨1, _⟩ => show win1_7.index t (1 : Fin 2) * 32 + 1 * (j 1).val = (j 1).val; omega
theorem emb8 (t : Fin cfg1.N) (j : S1024x32.Idx) : ((cfg1.win 8).blk t).view.emb j = j := by
  obtain ⟨e0, e1⟩ := index8 t
  funext a; apply Fin.ext
  match a with
  | ⟨0, _⟩ => show win1_8.index t (0 : Fin 2) * 1024 + 1 * (j 0).val = (j 0).val; omega
  | ⟨1, _⟩ => show win1_8.index t (1 : Fin 2) * 32 + 1 * (j 1).val = (j 1).val; omega
theorem emb9 (t : Fin cfg1.N) (j : S1024x32.Idx) : ((cfg1.win 9).blk t).view.emb j = j := by
  obtain ⟨e0, e1⟩ := index9 t
  funext a; apply Fin.ext
  match a with
  | ⟨0, _⟩ => show win1_9.index t (0 : Fin 2) * 1024 + 1 * (j 0).val = (j 0).val; omega
  | ⟨1, _⟩ => show win1_9.index t (1 : Fin 2) * 32 + 1 * (j 1).val = (j 1).val; omega
theorem blk1_read (t : Fin cfg1.N) (A : S1024x128.Idx → Elt F .f32) : ((cfg1.win 1).blk t).view.read (Elt F) A = A := by
  funext j; show A (((cfg1.win 1).blk t).view.emb j) = A j; rw [emb1]
theorem blk2_read (t : Fin cfg1.N) (A : S1024x128.Idx → Elt F .f32) : ((cfg1.win 2).blk t).view.read (Elt F) A = A := by
  funext j; show A (((cfg1.win 2).blk t).view.emb j) = A j; rw [emb2]
theorem blk3_read (t : Fin cfg1.N) (A : S1024x128.Idx → Elt F .f32) : ((cfg1.win 3).blk t).view.read (Elt F) A = A := by
  funext j; show A (((cfg1.win 3).blk t).view.emb j) = A j; rw [emb3]
theorem blk4_read (t : Fin cfg1.N) (A : S1024x1.Idx → Elt F .i32) : ((cfg1.win 4).blk t).view.read (Elt F) A = A := by
  funext j; show A (((cfg1.win 4).blk t).view.emb j) = A j; rw [emb4]
theorem blk5_read (t : Fin cfg1.N) (A : S1024x1.Idx → Elt F .i32) : ((cfg1.win 5).blk t).view.read (Elt F) A = A := by
  funext j; show A (((cfg1.win 5).blk t).view.emb j) = A j; rw [emb5]
theorem blk6_read (t : Fin cfg1.N) (A : S1024x1.Idx → Elt F .i32) : ((cfg1.win 6).blk t).view.read (Elt F) A = A := by
  funext j; show A (((cfg1.win 6).blk t).view.emb j) = A j; rw [emb6]

/-! ## The call's data at an entry valuation -/

variable (V : (c : Dev nD) → (b : Ref sig .tc) → Buf (Elt F) ((c : Thread nD τ).loc b))

/-- The padded, transposed table the call streams. -/
def tabT (c : Dev nD) : S32x100352.Idx → Elt F .f32 := V c main_v19
/-- The selected left rows, -/
def lhsV (c : Dev nD) : S1024x32.Idx → Elt F .f32 := lhsB (V c main_v11_0) (V c main_v13)
/-- the selected relation rows, -/
def relV (c : Dev nD) : S1024x32.Idx → Elt F .f32 := relB (V c main_v11_1) (V c main_v15)
/-- and the selected right rows. -/
def rhsV (c : Dev nD) : S1024x32.Idx → Elt F .f32 := rhsB (V c main_v11_2) (V c main_v17)
/-- The query products in the scratch. -/
def qV (c : Dev nD) : S1024x32.Idx → Elt F .bf16 := q16 (lhsV V c) (relV V c)
/-- The score array. -/
def scV (c : Dev nD) : S100000x1024.Idx → Elt F .f32 := scoreT (tabT V c) (qV V c)

/-- The four semaphores of the copies, at zero. -/
def sems0 (c : Dev nD) : sProp 𝕄 :=
  iprop(semVal ((c : Thread nD τ), SemLoc.dma dsem0) 0 ∗ semVal ((c : Thread nD τ), SemLoc.dma dsem1) 0 ∗ semVal ((c : Thread nD τ), SemLoc.dma dsem2) 0 ∗ semVal ((c : Thread nD τ), SemLoc.dma dsem3) 0)

/-- What the call keeps between points. Before the first: both scratches and the score array at something, no copy in flight.
    After point `k`: the query products in their scratch; the rows below `2048 k` at the scores; the copies of the next 2048
    rows in flight, delivering the scores; the rows after at something. After the last: every row at the scores, no copy in
    flight, both scratches at something. -/
def Φc (c : Dev nD) : ℕ → sProp 𝕄
  | 0 => iprop((∃ f : S4x512x1024.Idx → Elt F .f32, A12.view.loc (c : Thread nD τ) ↦{fullShare} f) ∗ (∃ f : S1024x32.Idx → Elt F .bf16, A13.view.loc (c : Thread nD τ) ↦{fullShare} f)
      ∗ sems0 c ∗ (∃ f, rowsAt c 0 100000 f))
  | k + 1 => if k = 48 then
      iprop((∃ f : S4x512x1024.Idx → Elt F .f32, A12.view.loc (c : Thread nD τ) ↦{fullShare} f) ∗ (∃ f : S1024x32.Idx → Elt F .bf16, A13.view.loc (c : Thread nD τ) ↦{fullShare} f)
        ∗ sems0 c ∗ rowsAt c 0 100000 (scV V c))
    else
      iprop((A13.view.loc (c : Thread nD τ) ↦{fullShare} qV V c) ∗ rowsAt c 0 (2048 * k) (scV V c) ∗ (∃ f, rowsAt c (2048 * k + 2048) 100000 f)
        ∗ fly4 c (2048 * k) (scV V c))

/-- The waits that may be on record: those at or below level eight, where the SparseCore call has left them. -/
def recBound (c : Dev nD) : Set (SemLoc sig × HIx 1) := {p | (K (F := F)).lev ((c : Thread nD τ), p.1) p.2 ≤ 8}

/-- The call's proof data: each array as the call finds it; each input's staging buffer left as fetched, each output's at the
    rows the first point selects; nothing owed. -/
def dat (c : Dev nD) : Dat τ (Elt F) (HIx 1) ℕ UU ℕ cfg1 c where
  A w := V c (Pipeline.arrRef spec1 w)
  after w t := match w with
    | ⟨0, _⟩ => cols (tabT V c) 2048 t.val
    | ⟨1, _⟩ => V c main_v11_0
    | ⟨2, _⟩ => V c main_v11_1
    | ⟨3, _⟩ => V c main_v11_2
    | ⟨4, _⟩ => V c main_v13
    | ⟨5, _⟩ => V c main_v15
    | ⟨6, _⟩ => V c main_v17
    | ⟨7, _⟩ => lhsV V c
    | ⟨8, _⟩ => relV V c
    | ⟨9, _⟩ => rhsV V c
  Φ n := Φc V c n.val
  recorded _ := recBound (F := F) c
  q _ := fullShare
  owed _ := 0

/-! ## What each staging buffer holds when the body runs -/

theorem before0 (c : Dev nD) (t : Fin cfg1.N) (d) : (dat V c).before 0 t d = cols (tabT V c) 2048 t.val := by
  rw [(dat V c).before_in_eq_fetched 0 rfl (fun _ => rfl) (fun _ _ _ => rfl) (fun t => (blk0_read t (tabT V c)).symm) t d]
  exact blk0_read t (tabT V c)
theorem before1 (c : Dev nD) (t : Fin cfg1.N) (d) : (dat V c).before 1 t d = V c main_v11_0 := by
  rw [(dat V c).before_in_eq_fetched 1 rfl (fun _ => rfl) (fun _ _ _ => rfl) (fun t => (blk1_read t (V c main_v11_0)).symm) t d]
  exact blk1_read t (V c main_v11_0)
theorem before2 (c : Dev nD) (t : Fin cfg1.N) (d) : (dat V c).before 2 t d = V c main_v11_1 := by
  rw [(dat V c).before_in_eq_fetched 2 rfl (fun _ => rfl) (fun _ _ _ => rfl) (fun t => (blk2_read t (V c main_v11_1)).symm) t d]
  exact blk2_read t (V c main_v11_1)
theorem before3 (c : Dev nD) (t : Fin cfg1.N) (d) : (dat V c).before 3 t d = V c main_v11_2 := by
  rw [(dat V c).before_in_eq_fetched 3 rfl (fun _ => rfl) (fun _ _ _ => rfl) (fun t => (blk3_read t (V c main_v11_2)).symm) t d]
  exact blk3_read t (V c main_v11_2)
theorem before4 (c : Dev nD) (t : Fin cfg1.N) (d) : (dat V c).before 4 t d = V c main_v13 := by
  rw [(dat V c).before_in_eq_fetched 4 rfl (fun _ => rfl) (fun _ _ _ => rfl) (fun t => (blk4_read t (V c main_v13)).symm) t d]
  exact blk4_read t (V c main_v13)
theorem before5 (c : Dev nD) (t : Fin cfg1.N) (d) : (dat V c).before 5 t d = V c main_v15 := by
  rw [(dat V c).before_in_eq_fetched 5 rfl (fun _ => rfl) (fun _ _ _ => rfl) (fun t => (blk5_read t (V c main_v15)).symm) t d]
  exact blk5_read t (V c main_v15)
theorem before6 (c : Dev nD) (t : Fin cfg1.N) (d) : (dat V c).before 6 t d = V c main_v17 := by
  rw [(dat V c).before_in_eq_fetched 6 rfl (fun _ => rfl) (fun _ _ _ => rfl) (fun t => (blk6_read t (V c main_v17)).symm) t d]
  exact blk6_read t (V c main_v17)

theorem idle_at : ∀ t : Fin cfg1.N, (t.val = 0 → cfg1.idle 7 (cfg1.grid.coords t) = false ∧ cfg1.idle 8 (cfg1.grid.coords t) = false ∧ cfg1.idle 9 (cfg1.grid.coords t) = false)
    ∧ (t.val ≠ 0 → cfg1.idle 7 (cfg1.grid.coords t) = true ∧ cfg1.idle 8 (cfg1.grid.coords t) = true ∧ cfg1.idle 9 (cfg1.grid.coords t) = true) :=
  (by decide +kernel : ∀ t : Fin grid1.N, (t.val = 0 → idle1 7 (grid1.coords t) = false ∧ idle1 8 (grid1.coords t) = false ∧ idle1 9 (grid1.coords t) = false)
    ∧ (t.val ≠ 0 → idle1 7 (grid1.coords t) = true ∧ idle1 8 (grid1.coords t) = true ∧ idle1 9 (grid1.coords t) = true))

/-- Output window 7 holds, at every point after the first, what the first point left. -/
theorem before7 (c : Dev nD) (d) : ∀ (n : ℕ) (h : n + 1 < cfg1.N), (dat V c).before 7 ⟨n + 1, h⟩ d = lhsV V c
  | 0, h => by
    rw [(dat V c).before_of_pos 7 _ (Nat.succ_ne_zero _) rfl d, if_neg (fun hf => by have := (flush1_7 _).1 hf; simp at this)]
    unfold Dat.left
    rw [show cfg1.idle 7 (cfg1.grid.coords (⟨0 + 1 - 1, by omega⟩ : Fin cfg1.N)) = false from ((idle_at _).1 rfl).1]
    rfl
  | n + 1, h => by
    have hN : cfg1.N = 49 := N_1
    rw [(dat V c).before_of_pos 7 _ (Nat.succ_ne_zero _) rfl d, if_neg (fun hf => by have := (flush1_7 _).1 hf; simp at this; omega)]
    unfold Dat.left
    rw [show cfg1.idle 7 (cfg1.grid.coords (⟨n + 1 + 1 - 1, by omega⟩ : Fin cfg1.N)) = true from ((idle_at _).2 (Nat.succ_ne_zero n)).1]
    exact before7 c d n (by omega)
/-- Output window 8 holds, at every point after the first, what the first point left. -/
theorem before8 (c : Dev nD) (d) : ∀ (n : ℕ) (h : n + 1 < cfg1.N), (dat V c).before 8 ⟨n + 1, h⟩ d = relV V c
  | 0, h => by
    rw [(dat V c).before_of_pos 8 _ (Nat.succ_ne_zero _) rfl d, if_neg (fun hf => by have := (flush1_8 _).1 hf; simp at this)]
    unfold Dat.left
    rw [show cfg1.idle 8 (cfg1.grid.coords (⟨0 + 1 - 1, by omega⟩ : Fin cfg1.N)) = false from ((idle_at _).1 rfl).2.1]
    rfl
  | n + 1, h => by
    have hN : cfg1.N = 49 := N_1
    rw [(dat V c).before_of_pos 8 _ (Nat.succ_ne_zero _) rfl d, if_neg (fun hf => by have := (flush1_8 _).1 hf; simp at this; omega)]
    unfold Dat.left
    rw [show cfg1.idle 8 (cfg1.grid.coords (⟨n + 1 + 1 - 1, by omega⟩ : Fin cfg1.N)) = true from ((idle_at _).2 (Nat.succ_ne_zero n)).2.1]
    exact before8 c d n (by omega)
/-- Output window 9 holds, at every point after the first, what the first point left. -/
theorem before9 (c : Dev nD) (d) : ∀ (n : ℕ) (h : n + 1 < cfg1.N), (dat V c).before 9 ⟨n + 1, h⟩ d = rhsV V c
  | 0, h => by
    rw [(dat V c).before_of_pos 9 _ (Nat.succ_ne_zero _) rfl d, if_neg (fun hf => by have := (flush1_9 _).1 hf; simp at this)]
    unfold Dat.left
    rw [show cfg1.idle 9 (cfg1.grid.coords (⟨0 + 1 - 1, by omega⟩ : Fin cfg1.N)) = false from ((idle_at _).1 rfl).2.2]
    rfl
  | n + 1, h => by
    have hN : cfg1.N = 49 := N_1
    rw [(dat V c).before_of_pos 9 _ (Nat.succ_ne_zero _) rfl d, if_neg (fun hf => by have := (flush1_9 _).1 hf; simp at this; omega)]
    unfold Dat.left
    rw [show cfg1.idle 9 (cfg1.grid.coords (⟨n + 1 + 1 - 1, by omega⟩ : Fin cfg1.N)) = true from ((idle_at _).2 (Nat.succ_ne_zero n)).2.2]
    exact before9 c d n (by omega)

/-! ## The arrays at the end -/

theorem last_lt : 48 < cfg1.N := by rw [show cfg1.N = 49 from N_1]; decide

theorem final7 (c : Dev nD) : (dat V c).arrAt 7 cfg1.N = lhsV V c :=
  (dat V c).arrAt_eq_of_cover 7 (lhsV V c) (fun t _ => by
      funext j
      show lhsV V c j = lhsV V c (((cfg1.win 7).blk t).view.emb j)
      rw [emb7])
    (fun x => ⟨⟨48, last_lt⟩, (flush1_7 _).2 rfl, by
      have h := ((cfg1.win 7).blk (⟨48, last_lt⟩ : Fin cfg1.N)).view.emb_mem_set x; rwa [emb7] at h⟩)
theorem final8 (c : Dev nD) : (dat V c).arrAt 8 cfg1.N = relV V c :=
  (dat V c).arrAt_eq_of_cover 8 (relV V c) (fun t _ => by
      funext j
      show relV V c j = relV V c (((cfg1.win 8).blk t).view.emb j)
      rw [emb8])
    (fun x => ⟨⟨48, last_lt⟩, (flush1_8 _).2 rfl, by
      have h := ((cfg1.win 8).blk (⟨48, last_lt⟩ : Fin cfg1.N)).view.emb_mem_set x; rwa [emb8] at h⟩)
theorem final9 (c : Dev nD) : (dat V c).arrAt 9 cfg1.N = rhsV V c :=
  (dat V c).arrAt_eq_of_cover 9 (rhsV V c) (fun t _ => by
      funext j
      show rhsV V c j = rhsV V c (((cfg1.win 9).blk t).view.emb j)
      rw [emb9])
    (fun x => ⟨⟨48, last_lt⟩, (flush1_9 _).2 rfl, by
      have h := ((cfg1.win 9).blk (⟨48, last_lt⟩ : Fin cfg1.N)).view.emb_mem_set x; rwa [emb9] at h⟩)

end Cert.Proof.Score

end
-- ==== Proof.Region.lean ====
/-
  The TensorCore call's body obligation: at each grid point the body, from the state kept between points and the staging
  buffers as the pipeline hands them over, leaves the next state and the staging buffers as the call's data says. One
  lemma per form of the body (first, middle, last point), then the three together.
-/
module

public import proofs.«01_k».proof.Proof.RegionData

@[expose] public section

noncomputable section

namespace Cert.Proof.Score

open Cert.KernelIdeal Cert.KernelIdeal.Gen

open Idealize.ShloMosaic
open Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- A whole memref owned at its contents is its buffer held whole, at some contents that read so, -/
theorem owns_open (c : Dev nD) {s : Shape} {sp : Space} {e : EltTy} (m : Memref sig .tc sp s e) (hm : m.IsWhole) (X : s.Idx → Elt F e) :
    (owns c m fullShare X : sProp 𝕄) ⊢ iprop(∃ f, ⌜m.view.read (Elt F) f = X⌝ ∗ (m.view.loc (c : Thread nD τ) ↦{fullShare} f)) := by
  unfold owns; rw [hm.set_eq_univ]
/-- and back. -/
theorem owns_close (c : Dev nD) {s : Shape} {sp : Space} {e : EltTy} (m : Memref sig .tc sp s e) (hm : m.IsWhole) (X : s.Idx → Elt F e)
    (f : bufAt (F := F) c m) (h : m.view.read (Elt F) f = X) : (m.view.loc (c : Thread nD τ) ↦{fullShare} f : sProp 𝕄) ⊢ owns c m fullShare X := by
  unfold owns; rw [hm.set_eq_univ]
  iintro H; iexists f; isplitr; · ipureintro; exact h
  iexact H

variable (V : (c : Dev nD) → (b : Ref sig .tc) → Buf (Elt F) ((c : Thread nD τ).loc b))

/-- What the pipeline holds of window `w` once the body has run at a point. -/
abbrev lv1 (c : Dev nD) (w : Fin 10) (t : Fin cfg1.N) : sProp 𝕄 := (dat V c).leavesExact w t

theorem leave7_first (c : Dev nD) (t : Fin cfg1.N) (h : t.val = 0) : lv1 V c 7 t = owns c (st1_7 t) fullShare (lhsV V c) := by
  unfold lv1 Dat.leavesExact; rw [((idle_at t).1 h).1]; rfl
theorem leave7_later (c : Dev nD) (t : Fin cfg1.N) (h : t.val ≠ 0) : (owns c (st1_7 t) fullShare (lhsV V c) : sProp 𝕄) ⊢ lv1 V c 7 t := by
  by_cases hl : t.val = 48
  · unfold lv1 Dat.leavesExact; rw [((idle_at t).2 h).1, (flush1_7 t).2 (by rw [hl])]; exact .rfl
  · have hf : (cfg1.win 7).flush t = false := by
      cases hc : (cfg1.win 7).flush t
      · rfl
      · have := (flush1_7 t).1 hc; have ht : t.val < 49 := N_1 ▸ t.isLt; omega
    unfold lv1; rw [(dat V c).leavesExact_idle 7 t ((idle_at t).2 h).1 hf]
    iintro H; iexists (fun _ => Classical.arbitrary _)
    obtain ⟨n, hn⟩ := t
    obtain ⟨k, rfl⟩ := Nat.exists_eq_succ_of_ne_zero h
    rw [before7 V c _ k hn]; iexact H
theorem leave8_first (c : Dev nD) (t : Fin cfg1.N) (h : t.val = 0) : lv1 V c 8 t = owns c (st1_8 t) fullShare (relV V c) := by
  unfold lv1 Dat.leavesExact; rw [((idle_at t).1 h).2.1]; rfl
theorem leave8_later (c : Dev nD) (t : Fin cfg1.N) (h : t.val ≠ 0) : (owns c (st1_8 t) fullShare (relV V c) : sProp 𝕄) ⊢ lv1 V c 8 t := by
  by_cases hl : t.val = 48
  · unfold lv1 Dat.leavesExact; rw [((idle_at t).2 h).2.1, (flush1_8 t).2 (by rw [hl])]; exact .rfl
  · have hf : (cfg1.win 8).flush t = false := by
      cases hc : (cfg1.win 8).flush t
      · rfl
      · have := (flush1_8 t).1 hc; have ht : t.val < 49 := N_1 ▸ t.isLt; omega
    unfold lv1; rw [(dat V c).leavesExact_idle 8 t ((idle_at t).2 h).2.1 hf]
    iintro H; iexists (fun _ => Classical.arbitrary _)
    obtain ⟨n, hn⟩ := t
    obtain ⟨k, rfl⟩ := Nat.exists_eq_succ_of_ne_zero h
    rw [before8 V c _ k hn]; iexact H
theorem leave9_first (c : Dev nD) (t : Fin cfg1.N) (h : t.val = 0) : lv1 V c 9 t = owns c (st1_9 t) fullShare (rhsV V c) := by
  unfold lv1 Dat.leavesExact; rw [((idle_at t).1 h).2.2]; rfl
theorem leave9_later (c : Dev nD) (t : Fin cfg1.N) (h : t.val ≠ 0) : (owns c (st1_9 t) fullShare (rhsV V c) : sProp 𝕄) ⊢ lv1 V c 9 t := by
  by_cases hl : t.val = 48
  · unfold lv1 Dat.leavesExact; rw [((idle_at t).2 h).2.2, (flush1_9 t).2 (by rw [hl])]; exact .rfl
  · have hf : (cfg1.win 9).flush t = false := by
      cases hc : (cfg1.win 9).flush t
      · rfl
      · have := (flush1_9 t).1 hc; have ht : t.val < 49 := N_1 ▸ t.isLt; omega
    unfold lv1; rw [(dat V c).leavesExact_idle 9 t ((idle_at t).2 h).2.2 hf]
    iintro H; iexists (fun _ => Classical.arbitrary _)
    obtain ⟨n, hn⟩ := t
    obtain ⟨k, rfl⟩ := Nat.exists_eq_succ_of_ne_zero h
    rw [before9 V c _ k hn]; iexact H

/-- The state after the last point but one read back: point `k + 1` finds the state point `k` left. -/
theorem Φc_mid (c : Dev nD) (k : ℕ) (h : k ≠ 48) : Φc V c (k + 1) =
    iprop((A13.view.loc (c : Thread nD τ) ↦{fullShare} qV V c) ∗ rowsAt c 0 (2048 * k) (scV V c) ∗ (∃ f, rowsAt c (2048 * k + 2048) 100000 f) ∗ fly4 c (2048 * k) (scV V c)) := by
  unfold Φc; exact if_neg h
theorem Φc_end (c : Dev nD) : Φc V c 49 =
    iprop((∃ f : S4x512x1024.Idx → Elt F .f32, A12.view.loc (c : Thread nD τ) ↦{fullShare} f) ∗ (∃ f : S1024x32.Idx → Elt F .bf16, A13.view.loc (c : Thread nD τ) ↦{fullShare} f)
      ∗ sems0 c ∗ rowsAt c 0 100000 (scV V c)) := by
  unfold Φc; exact if_pos rfl

/-- Waits at the region's own index may be added to those on record. -/
theorem bound_grow (c : Dev nD) (t t' : Fin (cfg1.N + 1)) (W W' : Waits sig (HIx 1)) (h : ∀ p ∈ W, p ∈ (dat V c).bound (default : HIx 1) t)
    (h' : ∀ p ∈ W', p ∈ W ∨ p.2 = (default : HIx 1)) : ∀ p ∈ W', p ∈ (dat V c).bound (default : HIx 1) t' := fun p hp => by
  rcases h' p hp with hw | hw
  · exact h p hw
  · refine Or.inl ?_
    show (K (F := F)).lev _ p.2 ≤ 8
    rw [hw]; exact Nat.zero_le 8

/-- No rows hold anything. -/
theorem rows_none (c : Dev nD) (f g : Buf (Elt F) (A8.view.loc (c : Thread nD τ))) : (rowsAt c 0 0 f : sProp 𝕄) ⊢ rowsAt c 0 (2048 * 0) g := by
  unfold rowsAt; rw [show rows 0 (2048 * 0) = ∅ from rows_self 0]
  exact Entails.of_eq (pointsTo_congr (fun x hx => absurd hx (Finset.notMem_empty x)))

set_option maxHeartbeats 1000000 in
/-- The obligation at the first point. -/
theorem obl_first (c : Dev nD) (t : Fin cfg1.N) (h0 : t.val = 0) :
    iprop(Φc V c 0 ∗ (dat V c).owesAt (default : HIx 1) t.castSucc
      ∗ (∃ d, owns c (st1_0 t) fullShare ((dat V c).before 0 t d)) ∗ (∃ d, owns c (st1_1 t) fullShare ((dat V c).before 1 t d))
      ∗ (∃ d, owns c (st1_2 t) fullShare ((dat V c).before 2 t d)) ∗ (∃ d, owns c (st1_3 t) fullShare ((dat V c).before 3 t d))
      ∗ (∃ d, owns c (st1_4 t) fullShare ((dat V c).before 4 t d)) ∗ (∃ d, owns c (st1_5 t) fullShare ((dat V c).before 5 t d))
      ∗ (∃ d, owns c (st1_6 t) fullShare ((dat V c).before 6 t d)) ∗ (∃ d, owns c (st1_7 t) fullShare ((dat V c).before 7 t d))
      ∗ (∃ d, owns c (st1_8 t) fullShare ((dat V c).before 8 t d)) ∗ (∃ d, owns c (st1_9 t) fullShare ((dat V c).before 9 t d)))
      ⊢ wp frame (wpE (defs₀ (F := F)) 𝒱₀ (c : Thread nD τ) none) Set.univ (bodyAt1 (F := F) t) fun _ =>
        iprop(Φc V c 1 ∗ (dat V c).owesAt (default : HIx 1) t.succ
          ∗ lv1 V c 0 t ∗ lv1 V c 1 t ∗ lv1 V c 2 t ∗ lv1 V c 3 t ∗ lv1 V c 4 t ∗ lv1 V c 5 t ∗ lv1 V c 6 t ∗ lv1 V c 7 t ∗ lv1 V c 8 t ∗ lv1 V c 9 t) := by
  have hi : ((grid1.coords t) 0).val = 0 := (coord_val t).trans h0
  obtain ⟨h1, h2, h3, h4, h5, h6, h7, h8⟩ := conds_first t h0
  rw [leave7_first V c t h0, leave8_first V c t h0, leave9_first V c t h0, Φc_mid V c 0 (by decide)]
  simp only [before0, before1, before2, before3, before4, before5, before6]
  iintro ⟨HΦ, HO, ⟨%d0, H1⟩, ⟨%d1, H2⟩, ⟨%d2, H3⟩, ⟨%d3, H4⟩, ⟨%d4, H5⟩, ⟨%d5, H6⟩, ⟨%d6, H7⟩, ⟨%d7, H9⟩, ⟨%d8, H10⟩, ⟨%d9, H11⟩⟩
  ihave H1 := owns_open c _ (hstage1_0 _) _ $$ H1
  ihave H2 := owns_open c _ (hstage1_1 _) _ $$ H2
  ihave H3 := owns_open c _ (hstage1_2 _) _ $$ H3
  ihave H4 := owns_open c _ (hstage1_3 _) _ $$ H4
  ihave H5 := owns_open c _ (hstage1_4 _) _ $$ H5
  ihave H6 := owns_open c _ (hstage1_5 _) _ $$ H6
  ihave H7 := owns_open c _ (hstage1_6 _) _ $$ H7
  ihave H9 := owns_open c _ (hstage1_7 _) _ $$ H9
  ihave H10 := owns_open c _ (hstage1_8 _) _ $$ H10
  ihave H11 := owns_open c _ (hstage1_9 _) _ $$ H11
  icases H1 with ⟨%f1, %e1, H1⟩
  icases H2 with ⟨%f2, %e2, H2⟩
  icases H3 with ⟨%f3, %e3, H3⟩
  icases H4 with ⟨%f4, %e4, H4⟩
  icases H5 with ⟨%f5, %e5, H5⟩
  icases H6 with ⟨%f6, %e6, H6⟩
  icases H7 with ⟨%f7, %e7, H7⟩
  icases H9 with ⟨%f9, -, H9⟩
  icases H10 with ⟨%f10, -, H10⟩
  icases H11 with ⟨%f11, -, H11⟩
  unfold Φc sems0
  icases HΦ with ⟨⟨%b, Hb⟩, ⟨%fq, Hq⟩, ⟨HF0, HF1, HF2, HF3⟩, ⟨%n, Hn⟩⟩
  ihave Hb := slots_split c b $$ Hb
  icases Hb with ⟨Hs0, Hs1, Hs2, Hs3⟩
  ihave Hn := (rowsAt_split c (Nat.zero_le 2048) (by decide : 2048 ≤ 100000) n).1 $$ Hn
  icases Hn with ⟨Hn, Hrest⟩
  ihave Hn := (rowsAt_split c (Nat.le_refl 0) (Nat.zero_le 2048) n).1 $$ Hn
  icases Hn with ⟨Hz, Hn⟩
  unfold Pipeline.Dat.owesAt Pipeline.owesWithin
  icases HO with ⟨%W, %hW, HO⟩
  ihave Hn := (by rw [hi] : (rowsAt c 0 2048 n : sProp 𝕄) ⊢ rowsAt c (2048 * ((grid1.coords t) 0).val) (2048 * ((grid1.coords t) 0).val + 2048) n) $$ Hn
  iapply (step_first c (grid1.coords t) h1 h2 h3 h4 h5 h6 h7 h8 (hstage1_0 _) (hstage1_1 _) (hstage1_2 _) (hstage1_3 _) (hstage1_4 _) (hstage1_5 _) (hstage1_6 _) (hstage1_7 _) (hstage1_8 _) (hstage1_9 _)
    f1 f2 f3 f4 f5 f6 f7 f9 f10 f11 (tabT V c) (by rw [e1, coord_val]) (qV V c) (by rw [e2, e3, e5, e6]; rfl) fq b b b b n W _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [Hq]; · iexact Hq
  isplitl [Hs0]; · iexact Hs0
  isplitl [Hs1]; · iexact Hs1
  isplitl [Hs2]; · iexact Hs2
  isplitl [Hs3]; · iexact Hs3
  isplitl [HF0]; · iexact HF0
  isplitl [HF1]; · iexact HF1
  isplitl [HF2]; · iexact HF2
  isplitl [HF3]; · iexact HF3
  isplitl [Hn]; · iexact Hn
  isplitl [HO]; · iexact HO
  iintro ⟨H1, H2, H3, H4, H5, H6, H7, ⟨%g9, %e9, H9⟩, ⟨%g10, %e10, H10⟩, ⟨%g11, %e11, H11⟩, Hq, Hfly, ⟨%W', %hW', HO⟩⟩
  isplitl [Hq Hrest Hfly Hz]
  · isplitl [Hq]; · iexact Hq
    isplitl [Hz]; · iapply (rows_none c n (scV V c)); iexact Hz
    isplitl [Hrest]; · iexists n; iexact Hrest
    rw [hi]; iexact Hfly
  isplitl [HO]
  · iexists W'; isplitr; · ipureintro; exact bound_grow V c _ _ W W' hW hW'
    iexact HO
  isplitl [H1]; · iapply (owns_close c _ (hstage1_0 _) _ f1 e1); iexact H1
  isplitl [H2]; · iapply (owns_close c _ (hstage1_1 _) _ f2 e2); iexact H2
  isplitl [H3]; · iapply (owns_close c _ (hstage1_2 _) _ f3 e3); iexact H3
  isplitl [H4]; · iapply (owns_close c _ (hstage1_3 _) _ f4 e4); iexact H4
  isplitl [H5]; · iapply (owns_close c _ (hstage1_4 _) _ f5 e5); iexact H5
  isplitl [H6]; · iapply (owns_close c _ (hstage1_5 _) _ f6 e6); iexact H6
  isplitl [H7]; · iapply (owns_close c _ (hstage1_6 _) _ f7 e7); iexact H7
  isplitl [H9]; · iapply (owns_close c _ (hstage1_7 _) _ g9 (by rw [e9, e2, e5]; rfl)); iexact H9
  isplitl [H10]; · iapply (owns_close c _ (hstage1_8 _) _ g10 (by rw [e10, e3, e6]; rfl)); iexact H10
  iapply (owns_close c _ (hstage1_9 _) _ g11 (by rw [e11, e4, e7]; rfl)); iexact H11

set_option maxHeartbeats 1000000 in
/-- The obligation at a point that is neither the first nor the last. -/
theorem obl_mid (c : Dev nD) (t : Fin cfg1.N) (k : ℕ) (hk : t.val = k + 1) (hk' : k + 1 ≠ 48) :
    iprop(Φc V c (k + 1) ∗ (dat V c).owesAt (default : HIx 1) t.castSucc
      ∗ (∃ d, owns c (st1_0 t) fullShare ((dat V c).before 0 t d))
      ∗ (∃ d, owns c (st1_1 t) fullShare ((dat V c).before 1 t d))
      ∗ (∃ d, owns c (st1_2 t) fullShare ((dat V c).before 2 t d))
      ∗ (∃ d, owns c (st1_3 t) fullShare ((dat V c).before 3 t d))
      ∗ (∃ d, owns c (st1_4 t) fullShare ((dat V c).before 4 t d))
      ∗ (∃ d, owns c (st1_5 t) fullShare ((dat V c).before 5 t d))
      ∗ (∃ d, owns c (st1_6 t) fullShare ((dat V c).before 6 t d))
      ∗ (∃ d, owns c (st1_7 t) fullShare ((dat V c).before 7 t d))
      ∗ (∃ d, owns c (st1_8 t) fullShare ((dat V c).before 8 t d))
      ∗ (∃ d, owns c (st1_9 t) fullShare ((dat V c).before 9 t d)))
      ⊢ wp frame (wpE (defs₀ (F := F)) 𝒱₀ (c : Thread nD τ) none) Set.univ (bodyAt1 (F := F) t) fun _ =>
        iprop(Φc V c (k + 1 + 1) ∗ (dat V c).owesAt (default : HIx 1) t.succ
          ∗ lv1 V c 0 t ∗ lv1 V c 1 t ∗ lv1 V c 2 t ∗ lv1 V c 3 t ∗ lv1 V c 4 t ∗ lv1 V c 5 t ∗ lv1 V c 6 t ∗ lv1 V c 7 t ∗ lv1 V c 8 t ∗ lv1 V c 9 t) := by
  have hi : ((grid1.coords t) 0).val = k + 1 := (coord_val t).trans hk
  have ht : t.val < 49 := N_1 ▸ t.isLt
  have ht0 : t.val ≠ 0 := by omega
  obtain ⟨h1, h2, h3, h4, h5, h6, h7, h8⟩ := conds_mid t ht0 (by omega)
  rw [Φc_mid V c (k + 1) hk', Φc_mid V c k (by omega)]
  have e7 : ∀ d, (dat V c).before 7 t d = lhsV V c := fun d => by
    obtain ⟨n, hn⟩ := t; obtain ⟨j, rfl⟩ := Nat.exists_eq_succ_of_ne_zero ht0; exact before7 V c d j hn
  have e8 : ∀ d, (dat V c).before 8 t d = relV V c := fun d => by
    obtain ⟨n, hn⟩ := t; obtain ⟨j, rfl⟩ := Nat.exists_eq_succ_of_ne_zero ht0; exact before8 V c d j hn
  have e9 : ∀ d, (dat V c).before 9 t d = rhsV V c := fun d => by
    obtain ⟨n, hn⟩ := t; obtain ⟨j, rfl⟩ := Nat.exists_eq_succ_of_ne_zero ht0; exact before9 V c d j hn
  simp only [before0, before1, before2, before3, before4, before5, before6, e7, e8, e9]
  iintro ⟨HΦ, HO, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩⟩
  ihave H1 := owns_open c _ (hstage1_0 _) _ $$ H1
  icases H1 with ⟨%f1, %e1, H1⟩
  icases HΦ with ⟨Hq, Hdone, ⟨%n, Hrest⟩, Hfly⟩
  ihave Hn := (rowsAt_split c (by omega : 2048 * k + 2048 ≤ 2048 * (k + 1) + 2048) (by omega : 2048 * (k + 1) + 2048 ≤ 100000) n).1 $$ Hrest
  icases Hn with ⟨Hn, Hrest⟩
  ihave Hn := (by rw [hi, show 2048 * (k + 1) = 2048 * k + 2048 by omega] : (rowsAt c (2048 * k + 2048) (2048 * (k + 1) + 2048) n : sProp 𝕄) ⊢ rowsAt c (2048 * ((grid1.coords t) 0).val) (2048 * ((grid1.coords t) 0).val + 2048) n) $$ Hn
  unfold Pipeline.Dat.owesAt Pipeline.owesWithin
  icases HO with ⟨%W, %hW, HO⟩
  iapply (step_mid c (grid1.coords t) h1 h2 h3 h4 h5 h6 h7 h8 (hstage1_0 _) (hstage1_1 _) (hstage1_2 _) (hstage1_3 _) (hstage1_4 _) (hstage1_5 _) (hstage1_6 _) (hstage1_7 _) (hstage1_8 _) (hstage1_9 _)
    f1 (tabT V c) (by rw [e1, coord_val]) (qV V c) (2048 * k) n W _)
  isplitl [H1]; · iexact H1
  isplitl [Hq]; · iexact Hq
  isplitl [Hfly]; · iexact Hfly
  isplitl [Hn]; · iexact Hn
  isplitl [HO]; · iexact HO
  iintro ⟨H1, Hq, Hnew, Hfly, ⟨%W', %hW', HO⟩⟩
  isplitl [Hq Hdone Hnew Hrest Hfly]
  · isplitl [Hq]; · iexact Hq
    isplitl [Hdone Hnew]
    · iapply (rowsAt_split c (Nat.zero_le (2048 * k)) (by omega : 2048 * k ≤ 2048 * (k + 1)) (scV V c)).2
      isplitl [Hdone]; · iexact Hdone
      iexact Hnew
    isplitl [Hrest]; · iexists n; iexact Hrest
    rw [hi]; iexact Hfly
  isplitl [HO]
  · iexists W'; isplitr; · ipureintro; exact bound_grow V c _ _ W W' hW hW'
    iexact HO
  isplitl [H1]; · iapply (owns_close c _ (hstage1_0 _) _ f1 e1); iexact H1
  isplitl [H2]; · iexact H2
  isplitl [H3]; · iexact H3
  isplitl [H4]; · iexact H4
  isplitl [H5]; · iexact H5
  isplitl [H6]; · iexact H6
  isplitl [H7]; · iexact H7
  isplitl [H8]; · iapply (leave7_later V c t ht0); iexact H8
  isplitl [H9]; · iapply (leave8_later V c t ht0); iexact H9
  iapply (leave9_later V c t ht0); iexact H10

set_option maxHeartbeats 1000000 in
/-- The obligation at the last point. -/
theorem obl_last (c : Dev nD) (t : Fin cfg1.N) (h48 : t.val = 48) :
    iprop(Φc V c 48 ∗ (dat V c).owesAt (default : HIx 1) t.castSucc
      ∗ (∃ d, owns c (st1_0 t) fullShare ((dat V c).before 0 t d))
      ∗ (∃ d, owns c (st1_1 t) fullShare ((dat V c).before 1 t d))
      ∗ (∃ d, owns c (st1_2 t) fullShare ((dat V c).before 2 t d))
      ∗ (∃ d, owns c (st1_3 t) fullShare ((dat V c).before 3 t d))
      ∗ (∃ d, owns c (st1_4 t) fullShare ((dat V c).before 4 t d))
      ∗ (∃ d, owns c (st1_5 t) fullShare ((dat V c).before 5 t d))
      ∗ (∃ d, owns c (st1_6 t) fullShare ((dat V c).before 6 t d))
      ∗ (∃ d, owns c (st1_7 t) fullShare ((dat V c).before 7 t d))
      ∗ (∃ d, owns c (st1_8 t) fullShare ((dat V c).before 8 t d))
      ∗ (∃ d, owns c (st1_9 t) fullShare ((dat V c).before 9 t d)))
      ⊢ wp frame (wpE (defs₀ (F := F)) 𝒱₀ (c : Thread nD τ) none) Set.univ (bodyAt1 (F := F) t) fun _ =>
        iprop(Φc V c 49 ∗ (dat V c).owesAt (default : HIx 1) t.succ
          ∗ lv1 V c 0 t ∗ lv1 V c 1 t ∗ lv1 V c 2 t ∗ lv1 V c 3 t ∗ lv1 V c 4 t ∗ lv1 V c 5 t ∗ lv1 V c 6 t ∗ lv1 V c 7 t ∗ lv1 V c 8 t ∗ lv1 V c 9 t) := by
  have hi : ((grid1.coords t) 0).val = 48 := (coord_val t).trans h48
  have ht0 : t.val ≠ 0 := by omega
  obtain ⟨h1, h2, h3, h4, h5, h6, h7, h8⟩ := conds_last t h48
  rw [Φc_end, Φc_mid V c 47 (by decide)]
  have e7 : ∀ d, (dat V c).before 7 t d = lhsV V c := fun d => by
    obtain ⟨n, hn⟩ := t; obtain ⟨j, rfl⟩ := Nat.exists_eq_succ_of_ne_zero ht0; exact before7 V c d j hn
  have e8 : ∀ d, (dat V c).before 8 t d = relV V c := fun d => by
    obtain ⟨n, hn⟩ := t; obtain ⟨j, rfl⟩ := Nat.exists_eq_succ_of_ne_zero ht0; exact before8 V c d j hn
  have e9 : ∀ d, (dat V c).before 9 t d = rhsV V c := fun d => by
    obtain ⟨n, hn⟩ := t; obtain ⟨j, rfl⟩ := Nat.exists_eq_succ_of_ne_zero ht0; exact before9 V c d j hn
  simp only [before0, before1, before2, before3, before4, before5, before6, e7, e8, e9]
  iintro ⟨HΦ, HO, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩⟩
  ihave H1 := owns_open c _ (hstage1_0 _) _ $$ H1
  icases H1 with ⟨%f1, %e1, H1⟩
  icases HΦ with ⟨Hq, Hdone, ⟨%n, Hrest⟩, Hfly⟩
  ihave Hn := (by rw [hi] : (rowsAt c (2048 * 47 + 2048) 100000 n : sProp 𝕄) ⊢ rowsAt c (2048 * ((grid1.coords t) 0).val) (2048 * ((grid1.coords t) 0).val + 1696) n) $$ Hrest
  unfold Pipeline.Dat.owesAt Pipeline.owesWithin
  icases HO with ⟨%W, %hW, HO⟩
  iapply (step_last c (grid1.coords t) h1 h2 h3 h4 h5 h6 h7 h8 (hstage1_0 _) (hstage1_1 _) (hstage1_2 _) (hstage1_3 _) (hstage1_4 _) (hstage1_5 _) (hstage1_6 _) (hstage1_7 _) (hstage1_8 _) (hstage1_9 _)
    f1 (tabT V c) (by rw [e1, coord_val]) (qV V c) (2048 * 47) n W _)
  isplitl [H1]; · iexact H1
  isplitl [Hq]; · iexact Hq
  isplitl [Hfly]; · iexact Hfly
  isplitl [Hn]; · iexact Hn
  isplitl [HO]; · iexact HO
  iintro ⟨H1, Hq, Hnew, Hend, Hb, HF0, HF1, HF2, HF3, ⟨%W', %hW', HO⟩⟩
  ihave Hend := (by rw [hi]; exact .rfl : (rowsAt c (2048 * ((grid1.coords t) 0).val) (2048 * ((grid1.coords t) 0).val + 1696) (scoreT (tabT V c) (qV V c)) : sProp 𝕄) ⊢ rowsAt c 98304 100000 (scV V c)) $$ Hend
  isplitl [Hq Hdone Hnew Hend Hb HF0 HF1 HF2 HF3]
  · isplitl [Hb]; · iexact Hb
    isplitl [Hq]; · iexists _; iexact Hq
    isplitl [HF0 HF1 HF2 HF3]
    · unfold sems0
      isplitl [HF0]; · iexact HF0
      isplitl [HF1]; · iexact HF1
      isplitl [HF2]; · iexact HF2
      iexact HF3
    iapply (rowsAt_split c (by decide : 0 ≤ 98304) (by decide : 98304 ≤ 100000) (scV V c)).2
    isplitl [Hdone Hnew]
    · iapply (rowsAt_split c (Nat.zero_le (2048 * 47)) (by decide : 2048 * 47 ≤ 98304) (scV V c)).2
      isplitl [Hdone]; · iexact Hdone
      iexact Hnew
    iexact Hend
  isplitl [HO]
  · iexists W'; isplitr; · ipureintro; exact bound_grow V c _ _ W W' hW hW'
    iexact HO
  isplitl [H1]; · iapply (owns_close c _ (hstage1_0 _) _ f1 e1); iexact H1
  isplitl [H2]; · iexact H2
  isplitl [H3]; · iexact H3
  isplitl [H4]; · iexact H4
  isplitl [H5]; · iexact H5
  isplitl [H6]; · iexact H6
  isplitl [H7]; · iexact H7
  isplitl [H8]; · iapply (leave7_later V c t ht0); iexact H8
  isplitl [H9]; · iapply (leave8_later V c t ht0); iexact H9
  iapply (leave9_later V c t ht0); iexact H10

/-- The body obligation: at every point, in whichever of its three forms. -/
theorem body_obligation (c : Dev nD) : BodyObligation (dat V c) (defs₀ (F := F)) 𝒱₀ (default : HIx 1) Set.univ := fun t => by
  rw [bigSep_W1, bigSep_W1]
  have ht : t.val < 49 := N_1 ▸ t.isLt
  have hs : (dat V c).Φ t.castSucc = Φc V c t.val := rfl
  have hs' : (dat V c).Φ t.succ = Φc V c (t.val + 1) := rfl
  rw [hs, hs']
  by_cases h0 : t.val = 0
  · rw [h0]; exact obl_first V c t h0
  · obtain ⟨k, hk⟩ := Nat.exists_eq_succ_of_ne_zero h0
    by_cases h48 : t.val = 48
    · rw [h48]; exact obl_last V c t h48
    · rw [hk]; exact obl_mid V c t k hk (by omega)

end Cert.Proof.Score

end
-- ==== Proof.Call.lean ====
/-
  The TensorCore call over the thread state "every unscoped buffer at a valuation, nothing owed": entered from any valuation
  `V`, left at any `Vp` that has the call's four results at their values and agrees with `V` elsewhere.
-/
module

public import proofs.«01_k».proof.Proof.Region

@[expose] public section

noncomputable section

namespace Cert.Proof.Score

open Cert.KernelIdeal Cert.KernelIdeal.Gen

open Idealize.ShloMosaic
open Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-- The one pipelined region takes no prefetched table. -/
abbrev adm : (p : Fin 1) → (pcfgs (F := F) p).Adm := fun p => (cfgs p).toPCfg_adm
/-- The region's data, as a family over the one region. -/
def pdats : (p : Fin 1) → (c : Dev nD) → Dat τ (Elt F) (HIx 1) ℕ UU ℕ (Pipeline.pin (pcfgs (F := F)) adm p) c
  | ⟨0, _⟩ => fun c => dat V c

/-- No level is assigned: nothing the region waits for is owed. -/
abbrev L0 : GSem nD τ sig → Finset (HIx 1) := fun _ => ∅
abbrev lv0 : GSem nD τ sig → HIx 1 → ℕ := fun _ _ => 0

/-- The semaphores of the body's four copies. -/
abbrev osem1 : Fin 4 → SemLoc sig := fun | 0 => .dma dsem0 | 1 => .dma dsem1 | 2 => .dma dsem2 | 3 => .dma dsem3

theorem osem1_facts : Pipeline.OwnSemFacts spec1 osem1 := by decide

theorem ownSems0_eq (c : Dev nD) : (Pipeline.ownSems0 (Ix := HIx 1) (Name := ℕ) (U := UU) (Lvl := ℕ) (Val := Elt F) (τ := τ) osem1 c : sProp 𝕄) = sems0 c :=
  Pipeline.ownSems0_eq_of_list c osem1 [0, 1, 2, 3] (by decide) (by decide)

/-- The unscoped buffers that are no window's array. -/
abbrev restSet : Finset (Ref sig .tc) := (Finset.univ.filter fun b : Ref sig .tc => ¬ b.isScoped) \ Finset.univ.image (Pipeline.arrRef spec1)

theorem mem_rest : main_v20_0 ∈ restSet := by decide
/-- The score array taken out of the unscoped buffers that are no window's array. -/
theorem rest_split (c : Dev nD) (W : (b : Ref sig .tc) → Buf (Elt F) ((c : Thread nD τ).loc b)) :
    (Pipeline.unscopedRest (Ix := HIx 1) (Name := ℕ) (U := UU) (Lvl := ℕ) spec1 c W : sProp 𝕄)
      = iprop((A8.view.loc (c : Thread nD τ) ↦{fullShare} W main_v20_0) ∗ bigSep (restSet.erase main_v20_0) fun b => ((c : Thread nD τ).loc b) ↦{fullShare} W b) :=
  BI.bigSep_erase mem_rest

variable (Vp : (c : Dev nD) → (b : Ref sig .tc) → Buf (Elt F) ((c : Thread nD τ).loc b))

set_option maxHeartbeats 1000000 in
set_option backward.isDefEq.respectTransparency.types false in
/-- The call's region. The score array, which no window stages, goes into the state kept between points with the four
    semaphores, and comes back at the scores. -/
def reg (h0 : ∀ c, Vp c main_v20_0 = scV V c) (h1 : ∀ c, Vp c main_v20_1 = lhsV V c) (h2 : ∀ c, Vp c main_v20_2 = relV V c)
    (h3 : ∀ c, Vp c main_v20_3 = rhsV V c)
    (hne : ∀ c (b : Ref sig .tc), b ≠ main_v20_0 → b ≠ main_v20_1 → b ≠ main_v20_2 → b ≠ main_v20_3 → Vp c b = V c b) :
    Pipeline.RegionSeg (pcfgs (F := F)) adm (pdats V) (default : HIx 1) (defs₀ (F := F)) 𝒱₀ L0 lv0 0 where
  win := (launch1).win.to₀
  block_pos := (launch1).block_pos
  stage_whole := (launch1).stage_whole
  K := Fin 4
  osem := osem1
  ho := osem1_facts
  hbody c := (body_obligation V c).loose
  hwaits := Pipeline.hwaits_of_owed_zero _ _ _ _ L0 lv0 0 fun _ _ => rfl
  pre c := iprop(unscopedBufs c (V c) ∗ ∃ W, ⌜(K (F := F)).WBelow (c : Thread nD τ) W 8⌝ ∗ owes (c : Thread nD τ) (0 : CellTallies nD τ sig (HIx 1)) W)
  post c := iprop(unscopedBufs c (Vp c) ∗ ∃ W, ⌜(K (F := F)).WBelow (c : Thread nD τ) W 8⌝ ∗ owes (c : Thread nD τ) (0 : CellTallies nD τ sig (HIx 1)) W)
  X c := iprop((A8.view.loc (c : Thread nD τ) ↦{fullShare} V c main_v20_0) ∗ sems0 c)
  Y c := (A8.view.loc (c : Thread nD τ) ↦{fullShare} scV V c)
  Z c := bigSep (restSet.erase main_v20_0) fun b => ((c : Thread nD τ).loc b) ↦{fullShare} V c b
  hentry c := by
    rw [ownSems0_eq]
    have hsplit := Pipeline.arrays_of_unscopedBufs (p := 0) (pcfgs (F := F)) adm (pdats V) (launch1).win (launch1).arr_whole c
      ((pdats V 0 c).share_full fun _ => rfl) (V c) fun _ => rfl
    iintro ⟨⟨Hub, HO⟩, Hs, -⟩
    ihave H := hsplit $$ Hub
    icases H with ⟨Ha, Hrest⟩
    ihave Hrest := (Entails.of_eq (rest_split c (V c))) $$ Hrest
    icases Hrest with ⟨H8, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [H8 Hs]
    · isplitl [H8]; · iexact H8
      iexact Hs
    iexact Hrest
  hin c := by
    rw [show (pdats V 0 c).Φ 0 = Φc V c 0 from rfl]
    iintro ⟨⟨H8, Hs⟩, -, Hr⟩
    ihave Hr := (Entails.of_eq (scopedRest1_eq c)) $$ Hr
    icases Hr with ⟨⟨%f, Ha⟩, ⟨%g, Hb⟩⟩
    unfold Φc
    isplitl [Ha]; · iexists f; iexact Ha
    isplitl [Hb]; · iexists g; iexact Hb
    isplitl [Hs]; · iexact Hs
    iexists V c main_v20_0
    unfold rowsAt; rw [rows_all]; iexact H8
  hout c := by
    rw [ownSems0_eq, show (pdats V 0 c).Φ (Fin.last _) = Φc V c 49 from congrArg (Φc V c) N_1, Φc_end]
    iintro ⟨⟨%f, Ha⟩, ⟨%g, Hb⟩, Hs, H8⟩
    isplitl [H8]; · unfold rowsAt; rw [rows_all]; iexact H8
    isplitl [Hs]; · iexact Hs
    iapply (Entails.of_eq (scopedRest1_eq c).symm)
    isplitl [Ha]; · iexists f; iexact Ha
    iexists g; iexact Hb
  hexit c := by
    have hin : ∀ w : Fin 10, (cfg1.win w).isOut = false → (pdats V 0 c).arrAt w cfg1.N = V c (Pipeline.arrRef spec1 w) := fun w hw => (pdats V 0 c).arrAt_in w hw _
    have hjoin := Pipeline.unscopedBufs_of_arrays (p := 0) (pcfgs (F := F)) adm (Ix := HIx 1) (Name := ℕ) (U := UU) (Lvl := ℕ) (launch1).win (launch1).arr_whole c
      (pdats V) ((pdats V 0 c).share_full fun _ => rfl) (Vp c) (Vp c) ((pdats V 0 c).arrAt · cfg1.N)
      (fun w => by
        fin_cases w
        · exact (hin 0 rfl).trans (hne c main_v19 (by decide) (by decide) (by decide) (by decide)).symm
        · exact (hin 1 rfl).trans (hne c main_v11_0 (by decide) (by decide) (by decide) (by decide)).symm
        · exact (hin 2 rfl).trans (hne c main_v11_1 (by decide) (by decide) (by decide) (by decide)).symm
        · exact (hin 3 rfl).trans (hne c main_v11_2 (by decide) (by decide) (by decide) (by decide)).symm
        · exact (hin 4 rfl).trans (hne c main_v13 (by decide) (by decide) (by decide) (by decide)).symm
        · exact (hin 5 rfl).trans (hne c main_v15 (by decide) (by decide) (by decide) (by decide)).symm
        · exact (hin 6 rfl).trans (hne c main_v17 (by decide) (by decide) (by decide) (by decide)).symm
        · exact (final7 V c).trans (h1 c).symm
        · exact (final8 V c).trans (h2 c).symm
        · exact (final9 V c).trans (h3 c).symm)
      (fun b hb => rfl)
    iintro ⟨Ha, HO, H8, Hrest⟩
    imodintro
    isplitl [Ha Hrest H8]
    · iapply hjoin
      isplitl [Ha]; · iexact Ha
      iapply (Entails.of_eq (rest_split c (Vp c)).symm)
      isplitl [H8]; · rw [h0 c]; iexact H8
      iapply (Entails.of_eq (bigSep_congr fun b hb => by
        have hm := Finset.mem_erase.mp hb
        have hn := (Finset.mem_sdiff.mp hm.2).2
        rw [hne c b hm.1 (fun h => hn (h ▸ Finset.mem_image.mpr ⟨7, Finset.mem_univ _, rfl⟩)) (fun h => hn (h ▸ Finset.mem_image.mpr ⟨8, Finset.mem_univ _, rfl⟩))
          (fun h => hn (h ▸ Finset.mem_image.mpr ⟨9, Finset.mem_univ _, rfl⟩))]))
      iexact Hrest
    unfold Pipeline.Dat.owesAt Pipeline.owesWithin
    icases HO with ⟨%W, %hW, HO⟩; iexists W
    isplitr
    · ipureintro; intro p hp
      rcases hW hp with h | ⟨w, s, h⟩
      · exact h
      · rw [h]; exact Nat.zero_le 8
    iexact HO

end Cert.Proof.Score

end
-- ==== Proof.Host.lean ====
module

public import proofs.«01_k».proof.Proof.Call
public import Idealize.ShloMosaic.Lib.StableHlo.Run

@[expose] public section

noncomputable section

namespace Cert.Proof.Score

open Cert.KernelIdeal Cert.KernelIdeal.Gen

open Idealize.ShloMosaic
open Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

open Idealize.ShloMosaic.StableHlo

/-! The host operations of the program, as lists: before the SparseCore call, between it and the TensorCore call, and after. -/

/-- Floor division of each word of `arg0` by the word `arg1`, through the buffers `φ`. -/
abbrev fdOps (arg0 : TRef sig ⟨S1024, .i32⟩) (arg1 : TRef sig ⟨S_, .i32⟩) (φ : fn_floor_divide.Bufs) : List (HloOp τ sig (Elt F)) :=
  [ TRef.unary arg1 φ.v0 id,
    TRef.unary φ.v0 φ.v1 (broadcastInDim S1024 ![] bcast_S_S1024),
    TRef.binary arg0 φ.v1 φ.v2 Host.divsi,
    TRef.unary arg0 φ.v3 signi,
    TRef.unary φ.v0 φ.v4 signi,
    TRef.unary φ.v4 φ.v5 (broadcastInDim S1024 ![] bcast_S_S1024),
    TRef.binary φ.v3 φ.v5 φ.v6 (cmpi .ne),
    TRef.unary φ.v0 φ.v7 (broadcastInDim S1024 ![] bcast_S_S1024),
    TRef.binary arg0 φ.v7 φ.v8 Host.remsi,
    TRef.nullary φ.c (constantI S_ 32 0#32),
    TRef.unary φ.c φ.v9 (broadcastInDim S1024 ![] bcast_S_S1024),
    TRef.binary φ.v8 φ.v9 φ.v10 (cmpi .ne),
    TRef.binary φ.v6 φ.v10 φ.v11 andi,
    TRef.nullary φ.c_0 (constantI S_ 32 1#32),
    TRef.unary φ.c_0 φ.v12 (broadcastInDim S1024 ![] bcast_S_S1024),
    TRef.binary φ.v2 φ.v12 φ.v13 subi,
    TRef.ternary φ.v11 φ.v13 φ.v2 φ.call0.v0 select ]

/-- The remainder of each word of `arg0` by the word `arg1`, of the sign of `arg1`, through the buffers `φ`. -/
abbrev remOps (arg0 : TRef sig ⟨S1024, .i32⟩) (arg1 : TRef sig ⟨S_, .i32⟩) (φ : fn_remainder.Bufs) : List (HloOp τ sig (Elt F)) :=
  [ TRef.unary arg1 φ.v0 id,
    TRef.nullary φ.c (constantI S_ 32 0#32),
    TRef.binary φ.v0 φ.c φ.v1 (cmpi .eq),
    TRef.nullary φ.c_0 (constantI S_ 32 1#32),
    TRef.ternary φ.v1 φ.c_0 φ.v0 φ.call0.v0 select,
    TRef.unary φ.call0.v0 φ.v3 (broadcastInDim S1024 ![] bcast_S_S1024),
    TRef.binary arg0 φ.v3 φ.v4 Host.remsi,
    TRef.nullary φ.c_1 (constantI S_ 32 0#32),
    TRef.unary φ.c_1 φ.v5 (broadcastInDim S1024 ![] bcast_S_S1024),
    TRef.binary φ.v4 φ.v5 φ.v6 (cmpi .ne),
    TRef.nullary φ.c_2 (constantI S_ 32 0#32),
    TRef.unary φ.c_2 φ.v7 (broadcastInDim S1024 ![] bcast_S_S1024),
    TRef.binary φ.v4 φ.v7 φ.v8 (cmpi .slt),
    TRef.nullary φ.c_3 (constantI S_ 32 0#32),
    TRef.binary φ.call0.v0 φ.c_3 φ.v9 (cmpi .slt),
    TRef.unary φ.v9 φ.v10 (broadcastInDim S1024 ![] bcast_S_S1024),
    TRef.binary φ.v8 φ.v10 φ.v11 (cmpi .ne),
    TRef.binary φ.v11 φ.v6 φ.v12 andi,
    TRef.unary φ.call0.v0 φ.v13 (broadcastInDim S1024 ![] bcast_S_S1024),
    TRef.binary φ.v4 φ.v13 φ.v14 addi,
    TRef.ternary φ.v12 φ.v14 φ.v4 φ.v15 select ]

/-- The padding of `arg0` on the right by 352 columns of `arg1`. -/
abbrev padOps (arg0 : TRef sig ⟨S32x100000, .f32⟩) (arg1 : TRef sig ⟨S_, .i32⟩) (φ : fn_pad.Bufs) : List (HloOp τ sig (Elt F)) :=
  [ TRef.unary arg1 φ.v0 (sitofp .f32),
    TRef.binary arg0 φ.v0 φ.v1 (fun x v => pad S32x100352 ![0, 0] ![0, 352] ![0, 0] x v pads_S32x100000_S32x100352_000_03520 h_S_) ]

/-- The operations before the SparseCore call: the three index columns, the two tables by rows of 128, the row numbers. -/
abbrev opsA : List (HloOp τ sig (Elt F)) :=
  [ unary main_arg0 main_v0 ((extractStridedSlice S1024x1 ![0, 0] · slices_S1024x4_S1024x1_0_0) : (⟨S1024x4, .i32⟩ : BufTy).Contents (Elt F) → (⟨S1024x1, .i32⟩ : BufTy).Contents (Elt F)),
      reshape main_v0 main_v1 (rfl : (.i32 : EltTy) = .i32) shapeCasts_S1024x1_S1024,
      unary main_arg0 main_v2 ((extractStridedSlice S1024x1 ![0, 1] · slices_S1024x4_S1024x1_0_1) : (⟨S1024x4, .i32⟩ : BufTy).Contents (Elt F) → (⟨S1024x1, .i32⟩ : BufTy).Contents (Elt F)),
      reshape main_v2 main_v3 (rfl : (.i32 : EltTy) = .i32) shapeCasts_S1024x1_S1024,
      unary main_arg0 main_v4 ((extractStridedSlice S1024x1 ![0, 2] · slices_S1024x4_S1024x1_0_2) : (⟨S1024x4, .i32⟩ : BufTy).Contents (Elt F) → (⟨S1024x1, .i32⟩ : BufTy).Contents (Elt F)),
      reshape main_v4 main_v5 (rfl : (.i32 : EltTy) = .i32) shapeCasts_S1024x1_S1024,
      reshape main_arg1 main_v6 (rfl : (.f32 : EltTy) = .f32) shapeCasts_S100000x32_S25000x128,
      reshape main_arg2 main_v7 (rfl : (.f32 : EltTy) = .f32) shapeCasts_S1000x32_S250x128,
      nullary main_c (constantI S_ 32 4#32) ]
  ++ (fdOps (.of main_v1) (.of main_c) main_call0
  ++ ([ nullary main_c_0 (constantI S_ 32 4#32) ]
  ++ (fdOps (.of main_v3) (.of main_c_0) main_call1
  ++ ([ nullary main_c_1 (constantI S_ 32 4#32) ]
  ++ (fdOps (.of main_v5) (.of main_c_1) main_call2)))))

/-- The operations between the calls: the places in the rows, the transposed table and its padding. -/
abbrev opsB : List (HloOp τ sig (Elt F)) :=
  [ nullary main_c_2 (constantI S_ 32 4#32) ]
  ++ (remOps (.of main_v1) (.of main_c_2) main_call3
  ++ ([ reshape main_v12 main_v13 (rfl : (.i32 : EltTy) = .i32) shapeCasts_S1024_S1024x1,
      nullary main_c_3 (constantI S_ 32 4#32) ]
  ++ (remOps (.of main_v3) (.of main_c_3) main_call4
  ++ ([ reshape main_v14 main_v15 (rfl : (.i32 : EltTy) = .i32) shapeCasts_S1024_S1024x1,
      nullary main_c_4 (constantI S_ 32 4#32) ]
  ++ (remOps (.of main_v5) (.of main_c_4) main_call5
  ++ ([ reshape main_v16 main_v17 (rfl : (.i32 : EltTy) = .i32) shapeCasts_S1024_S1024x1,
      unary main_arg1 main_v18 ((transpose S32x100000 [1, 0] · transposes_S100000x32_S32x100000_1_0) : (⟨S100000x32, .f32⟩ : BufTy).Contents (Elt F) → (⟨S32x100000, .f32⟩ : BufTy).Contents (Elt F)),
      nullary main_c_5 (constantI S_ 32 0#32) ]
  ++ (padOps (.of main_v18) (.of main_c_5) main_call6)))))))

/-- The operation after the calls: the scores turned. -/
abbrev opsC : List (HloOp τ sig (Elt F)) :=
  [ unary main_v20_0 main_v21 ((transpose S1024x100000 [1, 0] · transposes_S100000x1024_S1024x100000_1_0) : (⟨S100000x1024, .f32⟩ : BufTy).Contents (Elt F) → (⟨S1024x100000, .f32⟩ : BufTy).Contents (Elt F)) ]

set_option maxRecDepth 8192 in
set_option maxHeartbeats 4000000 in
/-- The program: its host operations and its two calls. -/
theorem main_eq (d : Dev nD) : main (F := F) d
    = (seq opsA >>= fun _ => sc.run d 0 >>= fun _ => seq opsB >>= fun _ =>
        Prog.lift (.customCall (SparseCore.inner (Pipeline.entry 0)) ()) >>= fun _ => seq opsC >>= fun _ => pure ⟨⟩) := rfl

end Cert.Proof.Score

end
-- ==== Proof.HostVals.lean ====
module

public import proofs.«01_k».proof.Proof.Host
public import Idealize.ShloMosaic.Lib.Pipeline.Frame

@[expose] public section

noncomputable section

namespace Cert.Proof.Score

open Cert.KernelIdeal Cert.KernelIdeal.Gen

open Idealize.ShloMosaic
open Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

open Idealize.ShloMosaic.StableHlo

/-! What the host operations compute, from any contents. -/

/-- Floor division by four, word by word, as the host spells it. -/
def fdiv4 (x : S1024.Idx → Elt F .i32) : S1024.Idx → Elt F .i32 :=
  select (andi (cmpi .ne (signi x) (broadcastInDim S1024 ![] bcast_S_S1024 (signi (constantI S_ 32 4#32))))
      (cmpi .ne (Host.remsi x (broadcastInDim S1024 ![] bcast_S_S1024 (constantI S_ 32 4#32))) (broadcastInDim S1024 ![] bcast_S_S1024 (constantI S_ 32 0#32))))
    (subi (Host.divsi x (broadcastInDim S1024 ![] bcast_S_S1024 (constantI S_ 32 4#32))) (broadcastInDim S1024 ![] bcast_S_S1024 (constantI S_ 32 1#32)))
    (Host.divsi x (broadcastInDim S1024 ![] bcast_S_S1024 (constantI S_ 32 4#32)))

/-- The divisor of the remainder: four, where it is not nought. -/
def four : S_.Idx → Elt F .i32 :=
  select (cmpi .eq (constantI S_ 32 4#32) (constantI S_ 32 0#32)) (constantI S_ 32 1#32) (constantI S_ 32 4#32)

/-- The remainder by four, word by word, as the host spells it. -/
def rem4 (x : S1024.Idx → Elt F .i32) : S1024.Idx → Elt F .i32 :=
  select (andi (cmpi .ne (cmpi .slt (Host.remsi x (broadcastInDim S1024 ![] bcast_S_S1024 (four (F := F)))) (broadcastInDim S1024 ![] bcast_S_S1024 (constantI S_ 32 0#32)))
        (broadcastInDim S1024 ![] bcast_S_S1024 (cmpi .slt (four (F := F)) (constantI S_ 32 0#32))))
      (cmpi .ne (Host.remsi x (broadcastInDim S1024 ![] bcast_S_S1024 (four (F := F)))) (broadcastInDim S1024 ![] bcast_S_S1024 (constantI S_ 32 0#32))))
    (addi (Host.remsi x (broadcastInDim S1024 ![] bcast_S_S1024 (four (F := F)))) (broadcastInDim S1024 ![] bcast_S_S1024 (four (F := F))))
    (Host.remsi x (broadcastInDim S1024 ![] bcast_S_S1024 (four (F := F))))

/-- The three columns of the queries that the program reads. -/
def col0 (q : S1024x4.Idx → Elt F .i32) : S1024.Idx → Elt F .i32 := shapeCast S1024 (extractStridedSlice S1024x1 ![0, 0] q slices_S1024x4_S1024x1_0_0) shapeCasts_S1024x1_S1024
def col1 (q : S1024x4.Idx → Elt F .i32) : S1024.Idx → Elt F .i32 := shapeCast S1024 (extractStridedSlice S1024x1 ![0, 1] q slices_S1024x4_S1024x1_0_1) shapeCasts_S1024x1_S1024
def col2 (q : S1024x4.Idx → Elt F .i32) : S1024.Idx → Elt F .i32 := shapeCast S1024 (extractStridedSlice S1024x1 ![0, 2] q slices_S1024x4_S1024x1_0_2) shapeCasts_S1024x1_S1024

/-- The entity table, turned and padded on the right with nought. -/
def padT (e : S100000x32.Idx → Elt F .f32) : S32x100352.Idx → Elt F .f32 :=
  pad S32x100352 ![0, 0] ![0, 352] ![0, 0] (transpose S32x100000 [1, 0] e transposes_S100000x32_S32x100000_1_0) (sitofp .f32 (constantI S_ 32 0#32)) pads_S32x100000_S32x100352_000_03520 h_S_

variable (V : Valuation τ sig (Elt F))

set_option maxRecDepth 8192 in
set_option maxHeartbeats 8000000 in
theorem A_arg0 : after opsA V (Proc.devRef .tc main_arg0) = V (Proc.devRef .tc main_arg0) := by
  simp only [opsA, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem A_arg1 : after opsA V (Proc.devRef .tc main_arg1) = V (Proc.devRef .tc main_arg1) := by
  simp only [opsA, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem A_arg2 : after opsA V (Proc.devRef .tc main_arg2) = V (Proc.devRef .tc main_arg2) := by
  simp only [opsA, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem A_v11_0 : after opsA V (Proc.devRef .tc main_v11_0) = V (Proc.devRef .tc main_v11_0) := by
  simp only [opsA, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem A_v11_1 : after opsA V (Proc.devRef .tc main_v11_1) = V (Proc.devRef .tc main_v11_1) := by
  simp only [opsA, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem A_v11_2 : after opsA V (Proc.devRef .tc main_v11_2) = V (Proc.devRef .tc main_v11_2) := by
  simp only [opsA, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem A_v1 : after opsA V (Proc.devRef .tc main_v1) = col0 (V (Proc.devRef .tc main_arg0)) := by
  simp only [opsA, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem A_v3 : after opsA V (Proc.devRef .tc main_v3) = col1 (V (Proc.devRef .tc main_arg0)) := by
  simp only [opsA, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem A_v5 : after opsA V (Proc.devRef .tc main_v5) = col2 (V (Proc.devRef .tc main_arg0)) := by
  simp only [opsA, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem A_v6 : after opsA V (Proc.devRef .tc main_v6) = shapeCast S25000x128 (V (Proc.devRef .tc main_arg1)) shapeCasts_S100000x32_S25000x128 := by
  simp only [opsA, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem A_v7 : after opsA V (Proc.devRef .tc main_v7) = shapeCast S250x128 (V (Proc.devRef .tc main_arg2)) shapeCasts_S1000x32_S250x128 := by
  simp only [opsA, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem A_v8 : after opsA V (Proc.devRef .tc main_v8) = fdiv4 (col0 (V (Proc.devRef .tc main_arg0))) := by
  simp only [opsA, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem A_v9 : after opsA V (Proc.devRef .tc main_v9) = fdiv4 (col1 (V (Proc.devRef .tc main_arg0))) := by
  simp only [opsA, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem A_v10 : after opsA V (Proc.devRef .tc main_v10) = fdiv4 (col2 (V (Proc.devRef .tc main_arg0))) := by
  simp only [opsA, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem B_arg0 : after opsB V (Proc.devRef .tc main_arg0) = V (Proc.devRef .tc main_arg0) := by
  simp only [opsB, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem B_arg1 : after opsB V (Proc.devRef .tc main_arg1) = V (Proc.devRef .tc main_arg1) := by
  simp only [opsB, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem B_arg2 : after opsB V (Proc.devRef .tc main_arg2) = V (Proc.devRef .tc main_arg2) := by
  simp only [opsB, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem B_v11_0 : after opsB V (Proc.devRef .tc main_v11_0) = V (Proc.devRef .tc main_v11_0) := by
  simp only [opsB, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem B_v11_1 : after opsB V (Proc.devRef .tc main_v11_1) = V (Proc.devRef .tc main_v11_1) := by
  simp only [opsB, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem B_v11_2 : after opsB V (Proc.devRef .tc main_v11_2) = V (Proc.devRef .tc main_v11_2) := by
  simp only [opsB, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem B_v13 : after opsB V (Proc.devRef .tc main_v13) = shapeCast S1024x1 (rem4 (V (Proc.devRef .tc main_v1))) shapeCasts_S1024_S1024x1 := by
  simp only [opsB, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem B_v15 : after opsB V (Proc.devRef .tc main_v15) = shapeCast S1024x1 (rem4 (V (Proc.devRef .tc main_v3))) shapeCasts_S1024_S1024x1 := by
  simp only [opsB, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem B_v17 : after opsB V (Proc.devRef .tc main_v17) = shapeCast S1024x1 (rem4 (V (Proc.devRef .tc main_v5))) shapeCasts_S1024_S1024x1 := by
  simp only [opsB, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem B_v19 : after opsB V (Proc.devRef .tc main_v19) = padT (V (Proc.devRef .tc main_arg1)) := by
  simp only [opsB, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem C_arg0 : after opsC V (Proc.devRef .tc main_arg0) = V (Proc.devRef .tc main_arg0) := by
  simp only [opsC, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem C_arg1 : after opsC V (Proc.devRef .tc main_arg1) = V (Proc.devRef .tc main_arg1) := by
  simp only [opsC, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem C_arg2 : after opsC V (Proc.devRef .tc main_arg2) = V (Proc.devRef .tc main_arg2) := by
  simp only [opsC, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem C_v20_1 : after opsC V (Proc.devRef .tc main_v20_1) = V (Proc.devRef .tc main_v20_1) := by
  simp only [opsC, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem C_v20_2 : after opsC V (Proc.devRef .tc main_v20_2) = V (Proc.devRef .tc main_v20_2) := by
  simp only [opsC, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem C_v20_3 : after opsC V (Proc.devRef .tc main_v20_3) = V (Proc.devRef .tc main_v20_3) := by
  simp only [opsC, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 8000000 in
theorem C_v21 : after opsC V (Proc.devRef .tc main_v21) = transpose S1024x100000 [1, 0] (V (Proc.devRef .tc main_v20_0)) transposes_S100000x1024_S1024x100000_1_0 := by
  simp only [opsC, fdOps, remOps, padOps, List.cons_append, List.nil_append, List.append_assoc, TRef.binary, TRef.nullary, TRef.ternary, TRef.unary, TRef.toBuf, TRef.ofBuf, cast_eq, id_eq]; after_results_simp <;> rfl

set_option maxRecDepth 8192 in
set_option maxHeartbeats 4000000 in
/-- These operations name TensorCore buffers only, and ask for no fresh one. -/
theorem subA : ∀ op ∈ (opsA : List (HloOp τ sig (Elt F))), op.bufs ⊆ Pipeline.ucRefs τ sig := by
  have h : (opsA : List (HloOp τ sig (Elt F))).Forall fun op => op.bufs ⊆ tcRefs τ sig := by
    simp only [opsA, fdOps, remOps, padOps, List.cons_append, List.nil_append, List.append_assoc, TRef.binary, TRef.nullary, TRef.ternary, TRef.unary, unary_bufs_sub, binary_bufs_sub, nullary_bufs_sub, ternary_bufs_sub, reshape_bufs_sub, _root_.and_self, _root_.and_true, List.Forall]
  exact fun op hop => Pipeline.sub_ucRefs op (List.forall_iff_forall_mem.mp h op hop)

set_option maxRecDepth 8192 in
theorem freshA : ∀ op ∈ (opsA : List (HloOp τ sig (Elt F))), op.fresh = ∅ := by
  have h : (opsA : List (HloOp τ sig (Elt F))).Forall fun op => op.fresh = ∅ := by
    simp only [opsA, fdOps, remOps, padOps, List.cons_append, List.nil_append, List.append_assoc, List.Forall]
    repeat' constructor
  exact List.forall_iff_forall_mem.mp h

set_option maxRecDepth 8192 in
set_option maxHeartbeats 4000000 in
/-- These operations name TensorCore buffers only, and ask for no fresh one. -/
theorem subB : ∀ op ∈ (opsB : List (HloOp τ sig (Elt F))), op.bufs ⊆ Pipeline.ucRefs τ sig := by
  have h : (opsB : List (HloOp τ sig (Elt F))).Forall fun op => op.bufs ⊆ tcRefs τ sig := by
    simp only [opsB, fdOps, remOps, padOps, List.cons_append, List.nil_append, List.append_assoc, TRef.binary, TRef.nullary, TRef.ternary, TRef.unary, unary_bufs_sub, binary_bufs_sub, nullary_bufs_sub, ternary_bufs_sub, reshape_bufs_sub, _root_.and_self, _root_.and_true, List.Forall]
  exact fun op hop => Pipeline.sub_ucRefs op (List.forall_iff_forall_mem.mp h op hop)

set_option maxRecDepth 8192 in
theorem freshB : ∀ op ∈ (opsB : List (HloOp τ sig (Elt F))), op.fresh = ∅ := by
  have h : (opsB : List (HloOp τ sig (Elt F))).Forall fun op => op.fresh = ∅ := by
    simp only [opsB, fdOps, remOps, padOps, List.cons_append, List.nil_append, List.append_assoc, List.Forall]
    repeat' constructor
  exact List.forall_iff_forall_mem.mp h

set_option maxRecDepth 8192 in
set_option maxHeartbeats 4000000 in
/-- These operations name TensorCore buffers only, and ask for no fresh one. -/
theorem subC : ∀ op ∈ (opsC : List (HloOp τ sig (Elt F))), op.bufs ⊆ Pipeline.ucRefs τ sig := by
  have h : (opsC : List (HloOp τ sig (Elt F))).Forall fun op => op.bufs ⊆ tcRefs τ sig := by
    simp only [opsC, fdOps, remOps, padOps, List.cons_append, List.nil_append, List.append_assoc, TRef.binary, TRef.nullary, TRef.ternary, TRef.unary, unary_bufs_sub, binary_bufs_sub, nullary_bufs_sub, ternary_bufs_sub, reshape_bufs_sub, _root_.and_self, _root_.and_true, List.Forall]
  exact fun op hop => Pipeline.sub_ucRefs op (List.forall_iff_forall_mem.mp h op hop)

set_option maxRecDepth 8192 in
theorem freshC : ∀ op ∈ (opsC : List (HloOp τ sig (Elt F))), op.fresh = ∅ := by
  have h : (opsC : List (HloOp τ sig (Elt F))).Forall fun op => op.fresh = ∅ := by
    simp only [opsC, fdOps, remOps, padOps, List.cons_append, List.nil_append, List.append_assoc, List.Forall]
    repeat' constructor
  exact List.forall_iff_forall_mem.mp h

end Cert.Proof.Score

end
-- ==== Proof.Split.lean ====
module

public import proofs.«01_k».proof.Proof.Setup
public import Idealize.ShloMosaic.Lib.StableHlo.Run
public import Idealize.ShloMosaic.Lib.SparseCore.Stream

@[expose] public section

noncomputable section

namespace Cert.Proof.Score

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

open Idealize.ShloMosaic.StableHlo

/-! The arrays of the SparseCore call dealt to its thirty-two tasks, and joined again. -/

theorem assoc_eq (A B C : sProp 𝕄) : iprop((A ∗ B) ∗ C) = iprop(A ∗ B ∗ C) := equiv_iff.mp ⟨BI.sep_assoc, BI.sep_assoc'⟩

/-- A family over the thirty-two tasks, by SparseCore and subcore. -/
def taskEquiv : Fin 2 × Fin 16 ≃ Fin 32 where
  toFun p := wid p.1 p.2
  invFun w := (⟨w.val % 2, Nat.mod_lt _ (by decide)⟩, ⟨w.val / 2, by omega⟩)
  left_inv p := by
    obtain ⟨c, s⟩ := p
    refine Prod.ext (Fin.ext ?_) (Fin.ext ?_)
    · show (2 * s.val + c.val) % 2 = c.val
      omega
    · show (2 * s.val + c.val) / 2 = s.val
      omega
  right_inv w := Fin.ext (by show 2 * (w.val / 2) + w.val % 2 = w.val; omega)

theorem tasks (Φ : Fin 32 → sProp 𝕄) :
    bigSep Finset.univ Φ = bigSep Finset.univ fun c : Fin 2 => bigSep Finset.univ fun i : Fin 16 => Φ (wid c i) := by
  rw [bigSep_univ_equiv taskEquiv Φ, bigSep_univ_prod]; rfl

/-- An index list is its thirty-two blocks. -/
theorem blocks1 (ℓ : Loc nD τ sig) (S : Fin 32 → Finset (Idx ℓ)) (hd : ∀ w w', w ≠ w' → Disjoint (S w) (S w')) (hu : Finset.univ.biUnion S = Finset.univ) (f : Buf (Elt F) ℓ) :
    (ℓ ↦{fullShare} f : sProp 𝕄) = bigSep Finset.univ fun w : Fin 32 => (ℓ ↦[S w]{fullShare} f) := by
  rw [← pointsTo_biUnion (ℓ := ℓ) (q := fullShare) (f := f) Finset.univ S (fun t _ t' _ h => hd t t' h), hu]

theorem iDisj (w w' : Fin 32) (h : w ≠ w') : Disjoint (iSet w) (iSet w') := Rect.part_disjoint div1024 h
theorem oDisj (w w' : Fin 32) (h : w ≠ w') : Disjoint (oSet w) (oSet w') := Rect.part_disjoint div1024x128 h
theorem iUnion : Finset.univ.biUnion iSet = Finset.univ := Rect.biUnion_part div1024
theorem oUnion : Finset.univ.biUnion oSet = Finset.univ := Rect.biUnion_part div1024x128

/-- The eight arrays of the call. -/
def scRefs : Finset (DevRef τ sig) :=
  {Proc.devRef .tc main_v6, Proc.devRef .tc main_v7, Proc.devRef .tc main_v8, Proc.devRef .tc main_v9, Proc.devRef .tc main_v10,
    Proc.devRef .tc main_v11_0, Proc.devRef .tc main_v11_1, Proc.devRef .tc main_v11_2}

theorem held_scRefs (d : Dev nD) (W : Valuation τ sig (Elt F)) :
    (held (d.tc : Thread nD τ) scRefs W : sProp 𝕄) = iprop((eLoc d ↦{fullShare} W (Proc.devRef .tc main_v6)) ∗ (rLoc d ↦{fullShare} W (Proc.devRef .tc main_v7))
      ∗ (i0Loc d ↦{fullShare} W (Proc.devRef .tc main_v8)) ∗ (i1Loc d ↦{fullShare} W (Proc.devRef .tc main_v9)) ∗ (i2Loc d ↦{fullShare} W (Proc.devRef .tc main_v10))
      ∗ (o0Loc d ↦{fullShare} W (Proc.devRef .tc main_v11_0)) ∗ (o1Loc d ↦{fullShare} W (Proc.devRef .tc main_v11_1)) ∗ (o2Loc d ↦{fullShare} W (Proc.devRef .tc main_v11_2))) := by
  unfold held scRefs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable (Vc : Dev nD → Valuation τ sig (Elt F))

/-- The tasks' tables and blocks are the whole arrays. -/
theorem deal (d : Dev nD) (f0 : Buf (Elt F) (o0Loc d)) (f1 : Buf (Elt F) (o1Loc d)) (f2 : Buf (Elt F) (o2Loc d)) :
    (bigSep Finset.univ fun w : Fin 32 => iprop(reads Vc d w ∗ outs d w f0 f1 f2)) = iprop((eLoc d ↦{fullShare} eV Vc d) ∗ (rLoc d ↦{fullShare} rV Vc d)
      ∗ (i0Loc d ↦{fullShare} i0V Vc d) ∗ (i1Loc d ↦{fullShare} i1V Vc d) ∗ (i2Loc d ↦{fullShare} i2V Vc d)
      ∗ (o0Loc d ↦{fullShare} f0) ∗ (o1Loc d ↦{fullShare} f1) ∗ (o2Loc d ↦{fullShare} f2) : sProp 𝕄) := by
  unfold reads outs
  simp only [bigSep_sep']
  rw [← pointsTo_piecesOf (ℓ := eLoc d) Finset.univ (eV Vc d) (o := 32) (by decide) fullShare,
    ← pointsTo_piecesOf (ℓ := rLoc d) Finset.univ (rV Vc d) (o := 32) (by decide) fullShare,
    ← blocks1 (i0Loc d) iSet iDisj iUnion, ← blocks1 (i1Loc d) iSet iDisj iUnion, ← blocks1 (i2Loc d) iSet iDisj iUnion,
    ← blocks1 (o0Loc d) oSet oDisj oUnion, ← blocks1 (o1Loc d) oSet oDisj oUnion, ← blocks1 (o2Loc d) oSet oDisj oUnion]
  simp only [assoc_eq]

/-- What the call takes: the eight arrays. -/
theorem st_eq (d : Dev nD) : (bigSep Finset.univ fun c : Fin ((K (F := F)).nCore 0) => (P Vc).st 0 d c) = (held (d.tc : Thread nD τ) scRefs (Vc d) : sProp 𝕄) := by
  rw [held_scRefs, ← deal Vc d]
  exact (tasks (fun w => tileIn Vc d w)).symm

/-- The contents after the call. -/
def after1 (d : Dev nD) : Valuation τ sig (Elt F) :=
  Function.update (Function.update (Function.update (Vc d) (Proc.devRef .tc main_v11_0) (g0 Vc d)) (Proc.devRef .tc main_v11_1) (g1 Vc d)) (Proc.devRef .tc main_v11_2) (g2 Vc d)

theorem after1_0 (d : Dev nD) : after1 Vc d (Proc.devRef .tc main_v11_0) = g0 Vc d := by
  unfold after1; rw [Function.update_of_ne (by decide), Function.update_of_ne (by decide), Function.update_self]
theorem after1_1 (d : Dev nD) : after1 Vc d (Proc.devRef .tc main_v11_1) = g1 Vc d := by
  unfold after1; rw [Function.update_of_ne (by decide), Function.update_self]
theorem after1_2 (d : Dev nD) : after1 Vc d (Proc.devRef .tc main_v11_2) = g2 Vc d := by
  unfold after1; rw [Function.update_self]
theorem after1_ne (d : Dev nD) (b : DevRef τ sig) (h0 : b ≠ Proc.devRef .tc main_v11_0) (h1 : b ≠ Proc.devRef .tc main_v11_1) (h2 : b ≠ Proc.devRef .tc main_v11_2) : after1 Vc d b = Vc d b := by
  unfold after1; rw [Function.update_of_ne h2, Function.update_of_ne h1, Function.update_of_ne h0]

/-- What it returns: the same arrays, the three results picked. -/
theorem dn_eq (d : Dev nD) : (bigSep Finset.univ fun c : Fin ((K (F := F)).nCore 0) => (P Vc).dn 0 d c) = (held (d.tc : Thread nD τ) scRefs (after1 Vc d) : sProp 𝕄) := by
  rw [held_scRefs, after1_0, after1_1, after1_2, after1_ne Vc d _ (by decide) (by decide) (by decide), after1_ne Vc d _ (by decide) (by decide) (by decide),
    after1_ne Vc d _ (by decide) (by decide) (by decide), after1_ne Vc d _ (by decide) (by decide) (by decide), after1_ne Vc d _ (by decide) (by decide) (by decide), ← deal Vc d]
  exact (tasks (fun w => tileOut Vc d w)).symm

/-- The arrays outside the call are as they were. -/
theorem rest_eq (d : Dev nD) (S : Finset (DevRef τ sig)) :
    (held (d.tc : Thread nD τ) (S \ scRefs) (after1 Vc d) : sProp 𝕄) = held (d.tc : Thread nD τ) (S \ scRefs) (Vc d) :=
  held_congr _ fun b hb => by
    have hn : b ∉ scRefs := (Finset.mem_sdiff.mp hb).2
    refine after1_ne Vc d b ?_ ?_ ?_ <;> (rintro rfl; exact hn (by decide))

end Cert.Proof.Score

end
-- ==== Proof.Tile.lean ====
/-
  One task of the SparseCore call, on vector subcore `s` of SparseCore `c`: it fetches its blocks of the three index lists,
  issues three indirect gathers at once (two out of the entity table, one out of the relation table), and after each writes
  the rows out. `tile_body` states that from its shares of the tables, its blocks of the lists and of the results, it ends
  with its blocks of the results at the rows the lists name.
-/
module

public import proofs.«01_k».proof.Proof.Setup

@[expose] public section

noncomputable section

namespace Cert.Proof.Score

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev wL (L : grid0.Coords) : Fin 32 := wid (Fin.cast bound_zero (L 0)) (Fin.cast bound_one (L 1))
abbrev thV (d : Dev nD) (L : grid0.Coords) : Thread nD τ := V d (cV L) (jV L)

local notation "eM" => (Memref.whole Cert.KernelIdeal.main_v6_scv : Memref Cert.KernelIdeal.sig Kind.scVector Space.hbm Cert.KernelIdeal.S25000x128 EltTy.f32)
local notation "rM" => (Memref.whole Cert.KernelIdeal.main_v7_scv : Memref Cert.KernelIdeal.sig Kind.scVector Space.hbm Cert.KernelIdeal.S250x128 EltTy.f32)
local notation "i0M" => (Memref.whole Cert.KernelIdeal.main_v8_scv : Memref Cert.KernelIdeal.sig Kind.scVector Space.hbm Cert.KernelIdeal.S1024 EltTy.i32)
local notation "i1M" => (Memref.whole Cert.KernelIdeal.main_v9_scv : Memref Cert.KernelIdeal.sig Kind.scVector Space.hbm Cert.KernelIdeal.S1024 EltTy.i32)
local notation "i2M" => (Memref.whole Cert.KernelIdeal.main_v10_scv : Memref Cert.KernelIdeal.sig Kind.scVector Space.hbm Cert.KernelIdeal.S1024 EltTy.i32)
local notation "o0M" => (Memref.whole Cert.KernelIdeal.main_v11_0_scv : Memref Cert.KernelIdeal.sig Kind.scVector Space.hbm Cert.KernelIdeal.S1024x128 EltTy.f32)
local notation "o1M" => (Memref.whole Cert.KernelIdeal.main_v11_1_scv : Memref Cert.KernelIdeal.sig Kind.scVector Space.hbm Cert.KernelIdeal.S1024x128 EltTy.f32)
local notation "o2M" => (Memref.whole Cert.KernelIdeal.main_v11_2_scv : Memref Cert.KernelIdeal.sig Kind.scVector Space.hbm Cert.KernelIdeal.S1024x128 EltTy.f32)
local notation "b0M" => (Memref.whole Cert.KernelIdeal.cc0_scratch0 : Memref Cert.KernelIdeal.sig Kind.scVector Space.vmem Cert.KernelIdeal.S32 EltTy.i32)
local notation "b1M" => (Memref.whole Cert.KernelIdeal.cc0_scratch1 : Memref Cert.KernelIdeal.sig Kind.scVector Space.vmem Cert.KernelIdeal.S32x128 EltTy.f32)
local notation "b2M" => (Memref.whole Cert.KernelIdeal.cc0_scratch2 : Memref Cert.KernelIdeal.sig Kind.scVector Space.vmem Cert.KernelIdeal.S32 EltTy.i32)
local notation "b3M" => (Memref.whole Cert.KernelIdeal.cc0_scratch3 : Memref Cert.KernelIdeal.sig Kind.scVector Space.vmem Cert.KernelIdeal.S32x128 EltTy.f32)
local notation "b4M" => (Memref.whole Cert.KernelIdeal.cc0_scratch4 : Memref Cert.KernelIdeal.sig Kind.scVector Space.vmem Cert.KernelIdeal.S32 EltTy.i32)
local notation "b5M" => (Memref.whole Cert.KernelIdeal.cc0_scratch5 : Memref Cert.KernelIdeal.sig Kind.scVector Space.vmem Cert.KernelIdeal.S32x128 EltTy.f32)

/-! ## The blocks as the task addresses them -/

abbrev iblkK (L : grid0.Coords) : Rect S1024 := Rect.unit (s := S1024) (k0_off1 L) S32.size (k0_off1_inb L)
abbrev oblkK (L : grid0.Coords) : Rect S1024x128 := Rect.unit (s := S1024x128) (k0_off2 L) S32x128.size (k0_off2_inb L)
abbrev i0K (L : grid0.Coords) : Memref sig .scVector .hbm S32 .i32 := (i0M).slice (iblkK L) (fun _ => rfl)
abbrev i1K (L : grid0.Coords) : Memref sig .scVector .hbm S32 .i32 := (i1M).slice (iblkK L) (fun _ => rfl)
abbrev i2K (L : grid0.Coords) : Memref sig .scVector .hbm S32 .i32 := (i2M).slice (iblkK L) (fun _ => rfl)
abbrev o0K (L : grid0.Coords) : Memref sig .scVector .hbm S32x128 .f32 := (o0M).slice (oblkK L) (fun _ => rfl)
abbrev o1K (L : grid0.Coords) : Memref sig .scVector .hbm S32x128 .f32 := (o1M).slice (oblkK L) (fun _ => rfl)
abbrev o2K (L : grid0.Coords) : Memref sig .scVector .hbm S32x128 .f32 := (o2M).slice (oblkK L) (fun _ => rfl)

theorem iblkK_eq (L : grid0.Coords) : iblkK L = iblk (wL L) := by
  unfold iblkK iblk Rect.part Rect.block
  congr 1 <;> funext a
  · rw [k0_off1_eq]
    match a with
    | 0 => simp only [Shape.partIx, Shape.partSize, Matrix.cons_val_zero]; change 64 * (L 1).val + 32 * (L 0).val = (2 * (L 1).val + (L 0).val) * 32; omega
  · match a with
    | 0 => simp [Shape.partSize]
theorem oblkK_eq (L : grid0.Coords) : oblkK L = oblk (wL L) := by
  unfold oblkK oblk Rect.part Rect.block
  congr 1 <;> funext a
  · rw [k0_off2_eq]
    match a with
    | 0 => simp only [Shape.partIx, Shape.partSize, Matrix.cons_val_zero]; change 64 * (L 1).val + 32 * (L 0).val = (2 * (L 1).val + (L 0).val) * 32; omega
    | 1 => simp [Shape.partIx, Shape.partSize]
  · match a with
    | 0 => simp [Shape.partSize]
    | 1 => simp [Shape.partSize]

theorem set_i0K (L : grid0.Coords) : (i0K L).view.set = iSet (wL L) := by
  rw [show (i0K L).view.set = (iblkK L).set from (View.set_slice _ _).trans Finset.map_refl, iblkK_eq]
theorem set_i1K (L : grid0.Coords) : (i1K L).view.set = iSet (wL L) := by
  rw [show (i1K L).view.set = (iblkK L).set from (View.set_slice _ _).trans Finset.map_refl, iblkK_eq]
theorem set_i2K (L : grid0.Coords) : (i2K L).view.set = iSet (wL L) := by
  rw [show (i2K L).view.set = (iblkK L).set from (View.set_slice _ _).trans Finset.map_refl, iblkK_eq]
theorem set_o0K (L : grid0.Coords) : (o0K L).view.set = oSet (wL L) := by
  rw [show (o0K L).view.set = (oblkK L).set from (View.set_slice _ _).trans Finset.map_refl, oblkK_eq]
theorem set_o1K (L : grid0.Coords) : (o1K L).view.set = oSet (wL L) := by
  rw [show (o1K L).view.set = (oblkK L).set from (View.set_slice _ _).trans Finset.map_refl, oblkK_eq]
theorem set_o2K (L : grid0.Coords) : (o2K L).view.set = oSet (wL L) := by
  rw [show (o2K L).view.set = (oblkK L).set from (View.set_slice _ _).trans Finset.map_refl, oblkK_eq]

/-! ## The subcore's own semaphores and buffers -/

/-- The nine DMA semaphores of the task: the three gathers', the three fetches', the three write-outs'. -/
abbrev smA : DmaSem sig := cc0_scratch6.sem
abbrev smB : DmaSem sig := cc0_scratch7.sem
abbrev smC : DmaSem sig := cc0_scratch8.sem
abbrev taskSems : Finset (SemLoc sig) :=
  {.dma cc0_scratch6.sem, .dma cc0_scratch7.sem, .dma cc0_scratch8.sem, .dma cc0_scoped0.sem, .dma cc0_scoped1.sem,
    .dma cc0_scoped2.sem, .dma cc0_scoped3.sem, .dma cc0_scoped4.sem, .dma cc0_scoped5.sem}

theorem taskSems_scoped : ∀ s ∈ taskSems, s.isScoped .scVector = true := by decide

/-- The nine semaphores at zero, taken out of the subcore's own; the rest beside them. -/
theorem ownSems0_V (d : Dev nD) (L : grid0.Coords) :
    (ownSems0 (thV d L) : sProp 𝕄)
      = iprop((semVal (thV d L, .dma cc0_scratch6.sem) 0 ∗ semVal (thV d L, .dma cc0_scratch7.sem) 0 ∗ semVal (thV d L, .dma cc0_scratch8.sem) 0
          ∗ semVal (thV d L, .dma cc0_scoped0.sem) 0 ∗ semVal (thV d L, .dma cc0_scoped1.sem) 0 ∗ semVal (thV d L, .dma cc0_scoped2.sem) 0
          ∗ semVal (thV d L, .dma cc0_scoped3.sem) 0 ∗ semVal (thV d L, .dma cc0_scoped4.sem) 0 ∗ semVal (thV d L, .dma cc0_scoped5.sem) 0)
        ∗ bigSep (ownCells (thV d L) \ taskSems.map ⟨fun s => ((thV d L, s) : GSem nD τ sig), fun _ _ h => (Prod.mk.inj h).2⟩) fun g => semVal g 0) := by
  have hsub : taskSems.map ⟨fun s => ((thV d L, s) : GSem nD τ sig), fun _ _ h => (Prod.mk.inj h).2⟩ ⊆ ownCells (thV d L) := by
    intro g hg
    obtain ⟨s, hs, rfl⟩ := Finset.mem_map.mp hg
    exact mem_ownCells.mpr ⟨rfl, taskSems_scoped s hs⟩
  unfold SparseCore.Cfg.ownSems0
  conv_lhs => rw [← Finset.union_sdiff_of_subset hsub]
  rw [bigSep_union Finset.disjoint_sdiff, bigSep_map]
  congr 1
  unfold taskSems
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]
  rfl

abbrev taskRefs : Finset (Ref sig .scVector) := {cc0_scratch0, cc0_scratch1, cc0_scratch2, cc0_scratch3, cc0_scratch4, cc0_scratch5}

/-- The six scratch buffers, each at some contents, taken out of the subcore's own; the rest beside them. -/
theorem ownBufs_V (d : Dev nD) (L : grid0.Coords) :
    (ownBufs (thV d L) : sProp 𝕄)
      = iprop(((∃ f, (thV d L).loc cc0_scratch0 ↦{fullShare} f) ∗ (∃ f, (thV d L).loc cc0_scratch1 ↦{fullShare} f)
          ∗ (∃ f, (thV d L).loc cc0_scratch2 ↦{fullShare} f) ∗ (∃ f, (thV d L).loc cc0_scratch3 ↦{fullShare} f)
          ∗ (∃ f, (thV d L).loc cc0_scratch4 ↦{fullShare} f) ∗ (∃ f, (thV d L).loc cc0_scratch5 ↦{fullShare} f))
        ∗ bigSep (ownRefs (τ := τ) (.scVector (cV L) (jV L)) \ taskRefs.map ⟨(Proc.scVector (cV L) (jV L)).devRef, Proc.devRef_injective _⟩)
            fun b => iprop(∃ f, ((d, b) : Loc nD τ sig) ↦{fullShare} f)) := by
  have hsub : taskRefs.map ⟨(Proc.scVector (cV L) (jV L)).devRef (sig := sig), Proc.devRef_injective _⟩ ⊆ ownRefs (τ := τ) (.scVector (cV L) (jV L)) := by
    intro b hb
    obtain ⟨r, hr, rfl⟩ := Finset.mem_map.mp hb
    refine SparseCore.Cfg.mem_ownRefs_of_owner ?_
    simp only [taskRefs, Finset.mem_insert, Finset.mem_singleton] at hr
    rcases hr with rfl | rfl | rfl | rfl | rfl | rfl <;> rfl
  unfold SparseCore.Cfg.ownBufs
  conv_lhs => rw [← Finset.union_sdiff_of_subset hsub]
  rw [bigSep_union Finset.disjoint_sdiff, bigSep_map]
  congr 1
  unfold taskRefs
  rw [SparseCore.bigSep_insert' (show (cc0_scratch0 : Ref sig .scVector) ∉ _ by decide +revert), SparseCore.bigSep_insert' (show (cc0_scratch1 : Ref sig .scVector) ∉ _ by decide +revert),
    SparseCore.bigSep_insert' (show (cc0_scratch2 : Ref sig .scVector) ∉ _ by decide +revert), SparseCore.bigSep_insert' (show (cc0_scratch3 : Ref sig .scVector) ∉ _ by decide +revert),
    SparseCore.bigSep_insert' (show (cc0_scratch4 : Ref sig .scVector) ∉ _ by decide +revert), bigSep_singleton]
  rfl

/-! ## What the fetches and the gathers leave -/

/-- Entry `j` of the tile's block of a list is entry `64 s + 32 c + j` of the list. -/
theorem iblkK_emb (L : grid0.Coords) (j : S32.Idx) : ((iblkK L).emb j 0).val = 64 * (L 1).val + 32 * (L 0).val + (j 0).val := by
  show (k0_off1 L) 0 + 1 * (j 0).val = _
  rw [k0_off1_eq, one_mul]; rfl
/-- Row `r` of the tile's block of an array of rows is row `64 s + 32 c + r`; -/
theorem oblkK_emb_zero (L : grid0.Coords) (x : S32x128.Idx) : ((oblkK L).emb x 0).val = 64 * (L 1).val + 32 * (L 0).val + (x 0).val := by
  show (k0_off2 L) 0 + 1 * (x 0).val = _
  rw [k0_off2_eq, one_mul]; rfl
/-- its columns are the array's. -/
theorem oblkK_emb_one (L : grid0.Coords) (x : S32x128.Idx) : ((oblkK L).emb x 1).val = (x 1).val := by
  show (k0_off2 L) 1 + 1 * (x 1).val = _
  rw [k0_off2_eq, one_mul]; exact Nat.zero_add _

/-- Contents written through a view over its whole shape are, on the view's elements, any contents that agree with what was written. -/
theorem writes_eq_on {sp : Space} {s : Shape} {e : EltTy} (v : View sig .scVector sp s e) (f g : v.ty.Contents (Elt F)) (w : s.Idx → Elt F e)
    (h : ∀ x, v.read (Elt F) g x = w x) : ∀ i ∈ v.set, v.writes (Elt F) f [⟨Rect.whole s, w⟩] i = g i := fun i hi => by
  obtain ⟨x, -, rfl⟩ := Finset.mem_map.mp hi
  have h1 := (congrFun (View.read_writes_whole v f w) x).trans (h x).symm
  rw [View.read_apply, View.read_apply] at h1
  exact (cast_inj _).mp h1

/-- The rectangle at offset zero of the whole extent keeps every index. -/
theorem unit_zero_emb {n : Nat} (h : ∀ a, (![0, 0] : Fin 2 → Nat) a + (⟨2, ![n, 128]⟩ : Shape).size a ≤ (⟨2, ![n, 128]⟩ : Shape).size a)
    (x : (⟨2, ![n, 128]⟩ : Shape).Idx) : (Rect.unit (s := ⟨2, ![n, 128]⟩) ![0, 0] (⟨2, ![n, 128]⟩ : Shape).size h).emb x = x := by
  funext a
  match a with
  | 0 => exact Fin.ext (by show 0 + 1 * (x 0).val = (x 0).val; omega)
  | 1 => exact Fin.ext (by show 0 + 1 * (x 1).val = (x 1).val; omega)

/-- The rows gathered by a list block are the block of the picked rows. -/
theorem gathered_eq {n : Nat} (hn : 0 < n) (hg : (⟨2, ![n, 128]⟩ : Shape).Gathers 0 S32x128) (L : grid0.Coords)
    (tab : (⟨2, ![n, 128]⟩ : Shape).Idx → Elt F .f32) (ix : S1024.Idx → Elt F .i32) (lst : S32.Idx → Elt F .i32)
    (hl : ∀ j, lst j = ix ((iblkK L).emb j)) (h32 : S32.numel = S32x128.size hg.axis') (hin : ∀ x, (lst x).toNat < n) (x : S32x128.Idx) :
    SparseCore.gatherPayload hg tab (SparseCore.rows lst h32 hin) x = pick hn tab ix ((oblkK L).emb x) := by
  unfold SparseCore.gatherPayload pick
  congr 1
  funext b
  have hr : (S32.rowMajor.symm ((x hg.axis').cast h32.symm)) 0 = x 0 := by
    apply Fin.ext
    rw [← Shape.rowMajor_val_one, Equiv.apply_symm_apply]; rfl
  match b with
  | 0 =>
    apply Fin.ext
    show (hg.idx _ x hg.axis).val = _
    rw [Shape.Gathers.idx_axis]
    show (lst _).toNat = (ix _).toNat % n
    rw [← Nat.mod_eq_of_lt (hin _), hl]
    congr 3
    funext a
    match a with
    | 0 => exact Fin.ext (by
        show ((iblkK L).emb _ 0).val = ((oblkK L).emb x 0).val
        rw [iblkK_emb, oblkK_emb_zero]; exact congrArg (fun z : Fin 32 => 64 * (L 1).val + 32 * (L 0).val + z.val) hr)
  | 1 =>
    apply Fin.ext
    rw [Shape.Gathers.idx_of_ne hg _ x _ Nat.one_ne_zero]
    show (x 1).val = ((oblkK L).emb x 1).val
    rw [oblkK_emb_one]

variable [FloatOps F]

/-- A fetched list's words are in range. -/
theorem fetched_lt {n : Nat} (ix : S1024.Idx → Elt F .i32) (h : ∀ j, (ix j).toNat < n) (L : grid0.Coords) (lst : S32.Idx → Elt F .i32)
    (hl : ∀ j, lst j = ix ((iblkK L).emb j)) : ∀ x, (lst x).toNat < n := fun x => by rw [hl]; exact h _

set_option maxHeartbeats 4000000 in
theorem tile_body (Vc : Dev nD → Valuation τ sig (Elt F)) (d : Dev nD) (L : grid0.Coords) (hF : (K (F := F)).Facts) (hpre : IdxOK Vc)
    (O : CellTallies nD τ sig (HIx 1)) (W : Waits sig (HIx 1)) (hO : ∀ g, O g none = 0) :
    iprop(levAts (K (F := F)).L (K (F := F)).lev ∗ emp ∗ tileIn Vc d (wL L)
        ∗ scopedBufs (thV d L) ∗ scopedSems0 (thV d L) ∗ owes (thV d L) O W)
      ⊢ wp frame (wpE (defs₀ (F := F)) 𝒱₀ (thV d L) none) Set.univ
          (cc0_k L eM (Memref.isWhole_whole _) rM (Memref.isWhole_whole _) i0M (Memref.isWhole_whole _) i1M (Memref.isWhole_whole _) i2M (Memref.isWhole_whole _)
            o0M (Memref.isWhole_whole _) o1M (Memref.isWhole_whole _) o2M (Memref.isWhole_whole _)
            b0M (Memref.isWhole_whole _) b1M (Memref.isWhole_whole _) b2M (Memref.isWhole_whole _) b3M (Memref.isWhole_whole _) b4M (Memref.isWhole_whole _) b5M (Memref.isWhole_whole _)
            cc0_scratch6 cc0_scratch7 cc0_scratch8 cc0_scoped0 cc0_scoped1 cc0_scoped2 cc0_scoped3 cc0_scoped4 cc0_scoped5)
          fun _ => iprop(tileOut Vc d (wL L)
            ∗ scopedBufs (thV d L) ∗ scopedSems0 (thV d L)
            ∗ ∃ W', ⌜∀ p ∈ W', p ∈ W ∨ p.2 = none⌝ ∗ owes (thV d L) O W') := by
  simp only [cc0_k_eq_skeleton]; unfold cc0_k_skel
  simp only [k0_part1_eq_skeleton]; unfold k0_part1_skel
  unfold tileIn tileOut reads outs
  rw [(K (F := F)).scopedBufs_V hF d (cV L) (jV L), SparseCore.Cfg.scopedSems0_V (Val := Elt F) d (cV L) (jV L), ownSems0_V, ownBufs_V]
  rw [BI.Entails.antisymm (pointsTo_share (ℓ := eLoc d) (PosShare.mem_left_op_right (tq (wL L)))).1 (pointsTo_share (ℓ := eLoc d) (PosShare.mem_left_op_right (tq (wL L)))).2]
  iintro ⟨#Hlv, -, ⟨⟨⟨He1, He2⟩, Hr, Hi0, Hi1, Hi2⟩, Ho0, Ho1, Ho2⟩, ⟨⟨⟨%f0, H0⟩, ⟨%f1, H1⟩, ⟨%f2, H2⟩, ⟨%f3, H3⟩, ⟨%f4, H4⟩, ⟨%f5, H5⟩⟩, Hbufs⟩, ⟨⟨SA, SB, SC, S0, S1, S2, S3, S4, S5⟩, Hsems⟩, HO⟩
  ihave Hmw := (show levAts (K (F := F)).L (K (F := F)).lev ⊢ Transfers.MayWaits (thV d L) (default : HIx 1) O from
    (K (F := F)).mayWaits_none (thr := thV d L) hO) $$ Hlv
  ihave Hi0' := (Entails.of_eq (show (i0Loc d ↦[iSet (wL L)]{fullShare} i0V Vc d : sProp 𝕄) = (i0K L).view.loc (thV d L) ↦[(i0K L).view.set]{fullShare} i0V Vc d by rw [set_i0K])) $$ Hi0
  ihave Hi1' := (Entails.of_eq (show (i1Loc d ↦[iSet (wL L)]{fullShare} i1V Vc d : sProp 𝕄) = (i1K L).view.loc (thV d L) ↦[(i1K L).view.set]{fullShare} i1V Vc d by rw [set_i1K])) $$ Hi1
  ihave Hi2' := (Entails.of_eq (show (i2Loc d ↦[iSet (wL L)]{fullShare} i2V Vc d : sProp 𝕄) = (i2K L).view.loc (thV d L) ↦[(i2K L).view.set]{fullShare} i2V Vc d by rw [set_i2K])) $$ Hi2
  ihave Ho0' := (Entails.of_eq (show (o0Loc d ↦[oSet (wL L)]{fullShare} Vc d (Proc.devRef .tc main_v11_0) : sProp 𝕄) = (o0K L).view.loc (thV d L) ↦[(o0K L).view.set]{fullShare} Vc d (Proc.devRef .tc main_v11_0) by rw [set_o0K])) $$ Ho0
  ihave Ho1' := (Entails.of_eq (show (o1Loc d ↦[oSet (wL L)]{fullShare} Vc d (Proc.devRef .tc main_v11_1) : sProp 𝕄) = (o1K L).view.loc (thV d L) ↦[(o1K L).view.set]{fullShare} Vc d (Proc.devRef .tc main_v11_1) by rw [set_o1K])) $$ Ho1
  ihave Ho2' := (Entails.of_eq (show (o2Loc d ↦[oSet (wL L)]{fullShare} Vc d (Proc.devRef .tc main_v11_2) : sProp 𝕄) = (o2K L).view.loc (thV d L) ↦[(o2K L).view.set]{fullShare} Vc d (Proc.devRef .tc main_v11_2) by rw [set_o2K])) $$ Ho2
  ihave H0' := (Entails.of_eq (show ((thV d L).loc cc0_scratch0 ↦{fullShare} f0 : sProp 𝕄) = (b0M).view.loc (thV d L) ↦{fullShare} f0 from rfl)) $$ H0
  ihave H1' := (Entails.of_eq (show ((thV d L).loc cc0_scratch1 ↦{fullShare} f1 : sProp 𝕄) = (b1M).view.loc (thV d L) ↦{fullShare} f1 from rfl)) $$ H1
  ihave H2' := (Entails.of_eq (show ((thV d L).loc cc0_scratch2 ↦{fullShare} f2 : sProp 𝕄) = (b2M).view.loc (thV d L) ↦{fullShare} f2 from rfl)) $$ H2
  ihave H3' := (Entails.of_eq (show ((thV d L).loc cc0_scratch3 ↦{fullShare} f3 : sProp 𝕄) = (b3M).view.loc (thV d L) ↦{fullShare} f3 from rfl)) $$ H3
  ihave H4' := (Entails.of_eq (show ((thV d L).loc cc0_scratch4 ↦{fullShare} f4 : sProp 𝕄) = (b4M).view.loc (thV d L) ↦{fullShare} f4 from rfl)) $$ H4
  ihave H5' := (Entails.of_eq (show ((thV d L).loc cc0_scratch5 ↦{fullShare} f5 : sProp 𝕄) = (b5M).view.loc (thV d L) ↦{fullShare} f5 from rfl)) $$ H5
  sl_exec
  have hN1 : ∀ h : S25000x128.Gathers 0 S32x128, ∑ j, ((b1M).slice (S32x128.rowRect h.axis' j) (S32x128.stride_rowRect h.axis' j)).view.dmaCredit
      = (b1M).view.dmaCredit := by decide +revert
  have hN3 : ∀ h : S250x128.Gathers 0 S32x128, ∑ j, ((b3M).slice (S32x128.rowRect h.axis' j) (S32x128.stride_rowRect h.axis' j)).view.dmaCredit
      = (b3M).view.dmaCredit := by decide +revert
  have hN5 : ∀ h : S25000x128.Gathers 0 S32x128, ∑ j, ((b5M).slice (S32x128.rowRect h.axis' j) (S32x128.stride_rowRect h.axis' j)).view.dmaCredit
      = (b5M).view.dmaCredit := by decide +revert
  have hl0 : ∀ x, (b0M).view.read (Elt F) (View.write (Elt F) (b0M).view f0 (tile_body.sl.dma0 Vc d L) Finset.univ) x = i0V Vc d ((iblkK L).emb x) := fun x => by
    rw [View.read_write_univ]; rfl
  have hl1 : ∀ x, (b2M).view.read (Elt F) (View.write (Elt F) (b2M).view f2 (tile_body.sl.dma0_1 Vc d L) Finset.univ) x = i1V Vc d ((iblkK L).emb x) := fun x => by
    rw [View.read_write_univ]; rfl
  have hl2 : ∀ x, (b4M).view.read (Elt F) (View.write (Elt F) (b4M).view f4 (tile_body.sl.dma0_2 Vc d L) Finset.univ) x = i2V Vc d ((iblkK L).emb x) := fun x => by
    rw [View.read_write_univ]; rfl
  iapply (SparseCore.wp_gatherFromWhole countersEmb 𝒱₀ (thV d L) none (hg := gathers_S25000x128_S32x128) (default : HIx 1)
      (b1M).view.dmaCredit (hN1 _) (by decide) (fetched_lt _ (hpre d).1 L _ hl0)) $$ [He1 H1' H0' SA]
  · isplitl [He1]; · iexact He1
    isplitl [H1']; · iexact H1'
    isplitl [H0']; · iexact H0'
    iexact SA
  iintro FA
  sl_exec
  iapply (SparseCore.wp_gatherFromWhole countersEmb 𝒱₀ (thV d L) none (hg := gathers_S250x128_S32x128) (default : HIx 1)
      (b3M).view.dmaCredit (hN3 _) (by decide) (fetched_lt _ (hpre d).2.1 L _ hl1)) $$ [Hr H3' H2' SB]
  · isplitl [Hr]; · iexact Hr
    isplitl [H3']; · iexact H3'
    isplitl [H2']; · iexact H2'
    iexact SB
  iintro FB
  sl_exec
  iapply (SparseCore.wp_gatherFromWhole countersEmb 𝒱₀ (thV d L) none (hg := gathers_S25000x128_S32x128) (default : HIx 1)
      (b5M).view.dmaCredit (hN5 _) (by decide) (fetched_lt _ (hpre d).2.2 L _ hl2)) $$ [He2 H5' H4' SC]
  · isplitl [He2]; · iexact He2
    isplitl [H5']; · iexact H5'
    isplitl [H4']; · iexact H4'
    iexact SC
  iintro FC
  sl_exec
  iapply (Transfers.wp_waitLocalO countersEmb 𝒱₀ (thV d L) none (default : HIx 1) (rfl : (b1M).view.dmaCredit = _)) $$ [FA HO]
  · isplitl [FA]; · iexact FA
    isplitl [HO]; · iexact HO
    iapply (Transfers.MayWaits.elim (SemLoc.dma cc0_scratch6.sem)) $$ Hmw
  iintro ⟨⟨H1', He1, H0'⟩, SA, HO⟩
  sl_exec
  iapply (Transfers.wp_waitLocalO countersEmb 𝒱₀ (thV d L) none (default : HIx 1) (rfl : (b3M).view.dmaCredit = _)) $$ [FB HO]
  · isplitl [FB]; · iexact FB
    isplitl [HO]; · iexact HO
    iapply (Transfers.MayWaits.elim (SemLoc.dma cc0_scratch7.sem)) $$ Hmw
  iintro ⟨⟨H3', Hr, H2'⟩, SB, HO⟩
  sl_exec
  iapply (Transfers.wp_waitLocalO countersEmb 𝒱₀ (thV d L) none (default : HIx 1) (rfl : (b5M).view.dmaCredit = _)) $$ [FC HO]
  · isplitl [FC]; · iexact FC
    isplitl [HO]; · iexact HO
    iapply (Transfers.MayWaits.elim (SemLoc.dma cc0_scratch8.sem)) $$ Hmw
  iintro ⟨⟨H5', He2, H4'⟩, SC, HO⟩
  sl_exec
  sl_step
  have hE : ((eM).slice (Rect.unit ![0, 0] S25000x128.size inb_S25000x128_S25000x128_0_0) (fun _ => rfl)).view.read (Elt F) (eV Vc d) = eV Vc d :=
    funext fun x => congrArg (eV Vc d) (unit_zero_emb _ x)
  have hR : ((rM).slice (Rect.unit ![0, 0] S250x128.size inb_S250x128_S250x128_0_0) (fun _ => rfl)).view.read (Elt F) (rV Vc d) = rV Vc d :=
    funext fun x => congrArg (rV Vc d) (unit_zero_emb _ x)
  have hw0 := writes_eq_on (o0K L).view (Vc d (Proc.devRef .tc main_v11_0)) (g0 Vc d) (tile_body.sl.dma0_3 Vc d L hpre f0 f1 hl0) (fun x => by
    refine (gathered_eq (by decide) gathers_S25000x128_S32x128 L (eV Vc d) (i0V Vc d) _ hl0 (by decide) (fetched_lt _ (hpre d).1 L _ hl0) x).symm.trans ?_
    show _ = View.read (Elt F) (b1M).view (View.write (Elt F) (b1M).view f1 _ Finset.univ) x
    refine Eq.trans ?_ (congrFun (View.read_write_univ _ _) x).symm
    rw [hE])
  have hw1 := writes_eq_on (o1K L).view (Vc d (Proc.devRef .tc main_v11_1)) (g1 Vc d) (tile_body.sl.dma0_4 Vc d L hpre f2 f3 hl1) (fun x => by
    refine (gathered_eq (by decide) gathers_S250x128_S32x128 L (rV Vc d) (i1V Vc d) _ hl1 (by decide) (fetched_lt _ (hpre d).2.1 L _ hl1) x).symm.trans ?_
    show _ = View.read (Elt F) (b3M).view (View.write (Elt F) (b3M).view f3 _ Finset.univ) x
    refine Eq.trans ?_ (congrFun (View.read_write_univ _ _) x).symm
    rw [hR])
  have hw2 := writes_eq_on (o2K L).view (Vc d (Proc.devRef .tc main_v11_2)) (g2 Vc d) (tile_body.sl.dma0_5 Vc d L hpre f4 f5 hl2) (fun x => by
    refine (gathered_eq (by decide) gathers_S25000x128_S32x128 L (eV Vc d) (i2V Vc d) _ hl2 (by decide) (fetched_lt _ (hpre d).2.2 L _ hl2) x).symm.trans ?_
    show _ = View.read (Elt F) (b5M).view (View.write (Elt F) (b5M).view f5 _ Finset.univ) x
    refine Eq.trans ?_ (congrFun (View.read_write_univ _ _) x).symm
    rw [hE])
  isplitl [He1 He2 Hr Hi0' Hi1' Hi2' Ho0' Ho1' Ho2']
  · isplitl [He1 He2 Hr Hi0' Hi1' Hi2']
    · isplitl [He1 He2]; · isplitl [He1]; · iexact He1
                           iexact He2
      isplitl [Hr]; · iexact Hr
      isplitl [Hi0']; · iapply (Entails.of_eq (show ((i0K L).view.loc (thV d L) ↦[(i0K L).view.set]{fullShare} i0V Vc d : sProp 𝕄) = i0Loc d ↦[iSet (wL L)]{fullShare} i0V Vc d by rw [set_i0K])); iexact Hi0'
      isplitl [Hi1']; · iapply (Entails.of_eq (show ((i1K L).view.loc (thV d L) ↦[(i1K L).view.set]{fullShare} i1V Vc d : sProp 𝕄) = i1Loc d ↦[iSet (wL L)]{fullShare} i1V Vc d by rw [set_i1K])); iexact Hi1'
      iapply (Entails.of_eq (show ((i2K L).view.loc (thV d L) ↦[(i2K L).view.set]{fullShare} i2V Vc d : sProp 𝕄) = i2Loc d ↦[iSet (wL L)]{fullShare} i2V Vc d by rw [set_i2K])); iexact Hi2'
    isplitl [Ho0']; · iapply (Entails.of_eq ((pointsTo_congr hw0).trans (show ((o0K L).view.loc (thV d L) ↦[(o0K L).view.set]{fullShare} g0 Vc d : sProp 𝕄) = o0Loc d ↦[oSet (wL L)]{fullShare} g0 Vc d by rw [set_o0K]))); iexact Ho0'
    isplitl [Ho1']; · iapply (Entails.of_eq ((pointsTo_congr hw1).trans (show ((o1K L).view.loc (thV d L) ↦[(o1K L).view.set]{fullShare} g1 Vc d : sProp 𝕄) = o1Loc d ↦[oSet (wL L)]{fullShare} g1 Vc d by rw [set_o1K]))); iexact Ho1'
    iapply (Entails.of_eq ((pointsTo_congr hw2).trans (show ((o2K L).view.loc (thV d L) ↦[(o2K L).view.set]{fullShare} g2 Vc d : sProp 𝕄) = o2Loc d ↦[oSet (wL L)]{fullShare} g2 Vc d by rw [set_o2K]))); iexact Ho2'
  isplitl [H0' H1' H2' H3' H4' H5' Hbufs]
  · isplitl [H0' H1' H2' H3' H4' H5']
    · isplitl [H0']; · iexists _; iexact H0'
      isplitl [H1']; · iexists _; iexact H1'
      isplitl [H2']; · iexists _; iexact H2'
      isplitl [H3']; · iexists _; iexact H3'
      isplitl [H4']; · iexists _; iexact H4'
      iexists _; iexact H5'
    iexact Hbufs
  isplitl [SA SB SC S0 S1 S2 S3 S4 S5 Hsems]
  · isplitl [SA SB SC S0 S1 S2 S3 S4 S5]
    · isplitl [SA]; · iexact SA
      isplitl [SB]; · iexact SB
      isplitl [SC]; · iexact SC
      isplitl [S0]; · iexact S0
      isplitl [S1]; · iexact S1
      isplitl [S2]; · iexact S2
      isplitl [S3]; · iexact S3
      isplitl [S4]; · iexact S4
      iexact S5
    iexact Hsems
  iexists _; isplitr
  swap; · iexact HO
  ipureintro; intro p hp
  iterate 9 (rcases Finset.mem_insert.mp hp with hp | hp; · exact .inr (hp ▸ rfl))
  exact .inl hp

/-! ## The obligation -/

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          eM (Memref.isWhole_whole _) rM (Memref.isWhole_whole _) i0M (Memref.isWhole_whole _) i1M (Memref.isWhole_whole _) i2M (Memref.isWhole_whole _)
            o0M (Memref.isWhole_whole _) o1M (Memref.isWhole_whole _) o2M (Memref.isWhole_whole _)
            b0M (Memref.isWhole_whole _) b1M (Memref.isWhole_whole _) b2M (Memref.isWhole_whole _) b3M (Memref.isWhole_whole _) b4M (Memref.isWhole_whole _) b5M (Memref.isWhole_whole _)
            cc0_scratch6 cc0_scratch7 cc0_scratch8 cc0_scoped0 cc0_scoped1 cc0_scoped2 cc0_scoped3 cc0_scoped4 cc0_scoped5) ⟨⟩ c s := rfl

omit [FloatOps F] in
/-- A task's waits are at the default index, so within what the obligation allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') :=
  sep_mono .rfl (sep_mono .rfl (sep_mono .rfl (exists_mono fun _ => sep_mono (BI.pure_mono fun h p hp => (h p hp).imp_right Or.inl) .rfl)))

set_option maxRecDepth 16384 in
theorem tileObl (Vc : Dev nD → Valuation τ sig (Elt F)) (hF : (K (F := F)).Facts) (hpre : IdxOK Vc) : (K (F := F)).TileObl (D (F := F)) 𝒱 (P Vc) v₀ 0 := by
  intro d c i O W hO _ _
  simp only [show (P Vc).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body Vc d (coordsV ⟨_, hci.1⟩ ⟨_, hci.2⟩) hF hpre O W hO).trans (wp_mono frame _ _ fun _ => obl_post)

/-- The launch hands the tiles their operands and takes back what they leave, as they are. -/
theorem vecSplit (Vc : Dev nD → Valuation τ sig (Elt F)) : (K (F := F)).VecSplit' (P Vc) 0 := by
  intro d c
  show iprop((P Vc).st 0 d c) ⊢ |={Set.univ}=> iprop((P Vc).st 0 d c ∗ ((P Vc).dn 0 d c -∗ (P Vc).dn 0 d c))
  iintro H
  imodintro
  isplitl [H]; · iexact H
  iintro H'
  iexact H'

end Cert.Proof.Score
-- ==== Proof.Run.lean ====
module

public import proofs.«01_k».proof.Proof.HostVals
public import proofs.«01_k».proof.Proof.Split
public import proofs.«01_k».proof.Proof.Tile
public import Idealize.ShloMosaic.Lib.SparseCore.Quiescent

@[expose] public section

noncomputable section

namespace Cert.Proof.Score

open Cert.KernelIdeal Cert.KernelIdeal.Gen

open Idealize.ShloMosaic
open Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

open Idealize.ShloMosaic.StableHlo

variable (m : (ℓ : Loc nD τ sig) → Buf (Elt F) ℓ) (ρ : Dev nD → PrngReg)

/-! The contents of a device's arrays along the program. -/

/-- At the launch, -/
abbrev W0 (d : Dev nD) : Valuation τ sig (Elt F) := fun b => m (d, b)
/-- when the SparseCore call starts, -/
abbrev W1 (d : Dev nD) : Valuation τ sig (Elt F) := after opsA (W0 m d)
/-- when it ends, -/
abbrev W2 (d : Dev nD) : Valuation τ sig (Elt F) := after1 (W1 m) d
/-- when the TensorCore call starts, -/
abbrev W3 (d : Dev nD) : Valuation τ sig (Elt F) := after opsB (W2 m d)
/-- the same, at the TensorCore's references, -/
abbrev R3 (d : Dev nD) (b : Ref sig .tc) : Buf (Elt F) ((d : Thread nD τ).loc b) := W3 m d (Proc.devRef .tc b)
/-- when it ends, -/
def W4 (d : Dev nD) : Valuation τ sig (Elt F) :=
  Function.update (Function.update (Function.update (Function.update (W3 m d) (Proc.devRef .tc main_v20_0) (scV (R3 m) d)) (Proc.devRef .tc main_v20_1) (lhsV (R3 m) d))
    (Proc.devRef .tc main_v20_2) (relV (R3 m) d)) (Proc.devRef .tc main_v20_3) (rhsV (R3 m) d)
abbrev R4 (d : Dev nD) (b : Ref sig .tc) : Buf (Elt F) ((d : Thread nD τ).loc b) := W4 m d (Proc.devRef .tc b)
/-- and at the end. -/
abbrev W5 (d : Dev nD) : Valuation τ sig (Elt F) := after opsC (W4 m d)

theorem W4_0 (d : Dev nD) : R4 m d main_v20_0 = scV (R3 m) d := by
  unfold R4 W4; rw [Function.update_of_ne (by decide), Function.update_of_ne (by decide), Function.update_of_ne (by decide), Function.update_self]
theorem W4_1 (d : Dev nD) : R4 m d main_v20_1 = lhsV (R3 m) d := by
  unfold R4 W4; rw [Function.update_of_ne (by decide), Function.update_of_ne (by decide), Function.update_self]
theorem W4_2 (d : Dev nD) : R4 m d main_v20_2 = relV (R3 m) d := by
  unfold R4 W4; rw [Function.update_of_ne (by decide), Function.update_self]
theorem W4_3 (d : Dev nD) : R4 m d main_v20_3 = rhsV (R3 m) d := by
  unfold R4 W4; rw [Function.update_self]
theorem W4_ne (d : Dev nD) (b : Ref sig .tc) (h0 : b ≠ main_v20_0) (h1 : b ≠ main_v20_1) (h2 : b ≠ main_v20_2) (h3 : b ≠ main_v20_3) : R4 m d b = R3 m d b := by
  have hi : ∀ b' : Ref sig .tc, b ≠ b' → (Proc.devRef .tc b : DevRef τ sig) ≠ Proc.devRef .tc b' := fun b' h e => h (Proc.devRef_injective _ e)
  unfold R4 W4
  rw [Function.update_of_ne (hi _ h3), Function.update_of_ne (hi _ h2), Function.update_of_ne (hi _ h1), Function.update_of_ne (hi _ h0)]

/-- The region's ghost state on device `d`. -/
abbrev G (d : Dev nD) : sProp 𝕄 := iprop(Pipeline.cellsGhost (Pipeline.pin (pcfgs (F := F)) adm) EP 0 d ∗ Pipeline.toksInit (Pipeline.pin (pcfgs (F := F)) adm) EP 0 d)

theorem levels0 : (iprop(emp) : sProp 𝕄) ⊢ levAts L0 lv0 :=
  Entails.of_eq (by unfold levAts L0; rw [bigSep_congr (fun g _ => bigSep_empty (Φ := fun ι => (levAt g ι (lv0 g ι) : sProp 𝕄))), bigSep_emp_const]; rfl)

variable {m} in
/-- A region entered from the program, as one of its own. -/
theorem region_lift (V : (c : Dev nD) → (b : Ref sig .tc) → Buf (Elt F) ((c : Thread nD τ).loc b))
    (R : Pipeline.RegionSeg (pcfgs (F := F)) adm (pdats V) (default : HIx 1) (defs₀ (F := F)) 𝒱₀ L0 lv0 0) (d : Dev nD) (Φ : PUnit → sProp 𝕄) :
    iprop((iprop(boundary (d : Thread nD τ) ∗ R.post d) -∗ Φ ⟨⟩) ∗ boundary (d : Thread nD τ) ∗ R.pre d ∗ G d)
      ⊢ wp frame (wpE ((K (F := F)).defs (D (F := F))) 𝒱 (SparseCore.T d) none) Set.univ (Prog.lift (.customCall (SparseCore.inner (Pipeline.entry 0)) ())) Φ := by
  have h2 := (K (F := F)).wp_liftProg (D (F := F)) 𝒱 (SparseCore.T d) Set.univ none
    ((.op (.customCall (Pipeline.entry 0) ()) fun x => .ret x : Prog (TpuEff nD τ sig (Elt F) (ΛP (F := F)) .tc) PUnit)) Φ
  have h := Pipeline.RegionSeg.wp (pcfgs (F := F)) adm (pdats V) (default : HIx 1) cellOf_inj EP (defs₀ (F := F)) 𝒱₀ L0 lv0 R d none (fun u hu => nomatch hu) (fun x => .ret x) Φ
  refine BIBase.Entails.trans ?_ (h.trans h2)
  iintro ⟨Hk, Hb, Hp, HG1, HG2⟩
  isplitl [Hk]
  · iintro H
    rw [wp_ret]; imodintro
    iapply Hk; iexact H
  isplitl [Hb]; · iexact Hb
  isplitl [Hp]; · iexact Hp
  isplitr; · iapply levels0; iempintro
  isplitl [HG1] <;> iassumption

/-- The TensorCore call: from the contents before to the contents after. -/
theorem region_wp (d : Dev nD) (Φ : PUnit → sProp 𝕄) :
    iprop((iprop(boundary (d : Thread nD τ) ∗ unscopedBufs d (R4 m d) ∗ ∃ W, ⌜(K (F := F)).WBelow (d : Thread nD τ) W 8⌝ ∗ owes (d : Thread nD τ) (0 : CellTallies nD τ sig (HIx 1)) W) -∗ Φ ⟨⟩)
        ∗ boundary (d : Thread nD τ) ∗ (unscopedBufs d (R3 m d) ∗ ∃ W, ⌜(K (F := F)).WBelow (d : Thread nD τ) W 8⌝ ∗ owes (d : Thread nD τ) (0 : CellTallies nD τ sig (HIx 1)) W) ∗ G d)
      ⊢ wp frame (wpE ((K (F := F)).defs (D (F := F))) 𝒱 (SparseCore.T d) none) Set.univ (Prog.lift (.customCall (SparseCore.inner (Pipeline.entry 0)) ())) Φ :=
  region_lift (R3 m) (reg (R3 m) (R4 m) (W4_0 m) (W4_1 m) (W4_2 m) (W4_3 m) (W4_ne m)) d Φ

/-- At the end every array of the device is held at its last contents. -/
abbrev FIN (d : Dev nD) : sProp 𝕄 := held (d.tc : Thread nD τ) (Pipeline.ucRefs τ sig) (W5 m d)

theorem scRefs_sub : scRefs ⊆ Pipeline.ucRefs τ sig := by decide

set_option maxHeartbeats 1000000 in
/-- The program on device `d`'s TensorCore. -/
theorem hmain (κ : GSem nD τ sig → ℕ) (d : Dev nD) :
    iprop((K (F := F)).ctx EH (P (W1 m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hu, Hts, -⟩, HG⟩
  ihave Hu := (Entails.of_eq (Pipeline.unscopedBufs_held d (W0 m d))) $$ Hu
  iapply (wp_seq (defs := (K (F := F)).defs (D (F := F))) 𝒱 none Set.univ d (Pipeline.ucRefs τ sig) _ opsA subA freshA (W0 m d)) $$ [Hb Hu]
  · isplitl [Hb] <;> iassumption
  iintro ⟨Hb, Hu⟩
  ihave Hu := (Entails.of_eq (held_sub_split (d.tc : Thread nD τ) scRefs_sub (W1 m d))) $$ Hu
  icases Hu with ⟨Hsc, Hrest⟩
  rw [wp_bind]
  iapply ((K (F := F)).wp_run (D (F := F)) 𝒱 (EH := EH) (P := P (W1 m)) κ d 0) $$ [Hst Hsc Hrest Hb Hts HG]
  isplitr; · iexact Hctx
  isplitl [Hst]; · iexact Hst
  isplitl [Hsc]; · rw [st_eq]; iexact Hsc
  iintro ⟨Hst, Hdn⟩
  ihave Hsc := (Entails.of_eq (dn_eq (W1 m) d)) $$ Hdn
  ihave Hrest := (Entails.of_eq (rest_eq (W1 m) d (Pipeline.ucRefs τ sig)).symm) $$ Hrest
  ihave Hu := (Entails.of_eq (held_sub_split (d.tc : Thread nD τ) scRefs_sub (W2 m d)).symm) $$ [Hsc Hrest]
  · isplitl [Hsc] <;> iassumption
  iapply (wp_seq (defs := (K (F := F)).defs (D (F := F))) 𝒱 none Set.univ d (Pipeline.ucRefs τ sig) _ opsB subB freshB (W2 m d)) $$ [Hb Hu]
  · isplitl [Hb] <;> iassumption
  iintro ⟨Hb, Hu⟩
  rw [wp_bind]
  ihave Hu := (Entails.of_eq (Pipeline.unscopedBufs_held d (W3 m d)).symm) $$ Hu
  unfold SparseCore.Cfg.tcSt
  icases Hst with ⟨⟨%W, %hW, HO⟩, Hst⟩
  iapply (region_wp m d)
  isplitr [Hb Hu HO HG]
  · iintro ⟨Hb, Hu, ⟨%W', %hW', HO⟩⟩
    ihave Hu := (Entails.of_eq (Pipeline.unscopedBufs_held d (W4 m d))) $$ Hu
    iapply (wp_seq (defs := (K (F := F)).defs (D (F := F))) 𝒱 none Set.univ d (Pipeline.ucRefs τ sig) _ opsC subC freshC (W4 m d)) $$ [Hb Hu]
    · isplitl [Hb] <;> iassumption
    iintro ⟨Hb, Hu⟩
    rw [wp_pure]; imodintro
    isplitl [HO Hst]
    · isplitl [HO]
      · iexists W'; isplitr; · ipureintro; exact hW'
        rw [(K (F := F)).Otc_end d (Nat.le_refl 1)]; iexact HO
      iexact Hst
    isplitl [Hu]; · iexact Hu
    isplitl [Hb] <;> iassumption
  isplitl [Hb]; · iexact Hb
  isplitl [Hu HO]
  · isplitl [Hu]; · iexact Hu
    iexists W; isplitr; · ipureintro; exact hW
    rw [← (K (F := F)).Otc_end d (Nat.le_refl 1)]; iexact HO
  iexact HG

end Cert.Proof.Score

end
-- ==== Proof.Launch.lean ====
module

public import proofs.«01_k».proof.Proof.Run

@[expose] public section

noncomputable section

namespace Cert.Proof.Score

open Cert.KernelIdeal Cert.KernelIdeal.Gen

open Idealize.ShloMosaic
open Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

open Idealize.ShloMosaic.StableHlo

variable (m : (ℓ : Loc nD τ sig) → Buf (Elt F) ℓ) (ρ : Dev nD → PrngReg)

/-- The launch's ghost element: the handshakes' rounds and the pipelined region's. -/
def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (W1 m)).x q thr) := by
  unfold u₀
  iintro Hu
  ihave H := (ownU_pair (initOf (K (F := F)).hsCells (K (F := F)).hsToks) ((initOf (Pipeline.cells (nD := nD) (τ := τ) (Pipeline.pin (pcfgs (F := F)) adm) cellOf_inj)
    (Pipeline.launchToks (nD := nD) (τ := τ) (Pipeline.pin (pcfgs (F := F)) adm) cellOf_inj), 1) : UP × Counters)) $$ Hu
  icases H with ⟨HH, HP⟩
  ihave HP := (own_pair_emb (embR (A := UH) (B := UP × Counters)) (initOf (Pipeline.cells (nD := nD) (τ := τ) (Pipeline.pin (pcfgs (F := F)) adm) cellOf_inj)
    (Pipeline.launchToks (nD := nD) (τ := τ) (Pipeline.pin (pcfgs (F := F)) adm) cellOf_inj)) (1 : Counters)) $$ HP
  icases HP with ⟨HP, -⟩
  rw [show ((Emb.inl : Emb UP (UP × Counters)).trans (embR (A := UH) (B := UP × Counters))) = (EP : Emb UP 𝕄) from rfl]
  imod (Pipeline.fund_ghost (Pipeline.pin (pcfgs (F := F)) adm) EP cellOf_inj) $$ HP with ⟨Hc, Ht⟩
  imodintro
  isplitl [HH]; · iexact HH
  isplitl
  · rw [bigSep_sep']
    isplitl [Hc]
    · iapply (Entails.of_eq (bigSep_congr fun c _ => bigSep_univ_of_subsingleton (0 : Fin 1)) :
        (bigSep Finset.univ fun c : Dev nD => bigSep Finset.univ fun p : Fin 1 => Pipeline.cellsGhost (Pipeline.pin (pcfgs (F := F)) adm) EP p c) ⊢ bigSep Finset.univ fun c : Dev nD => Pipeline.cellsGhost (Pipeline.pin (pcfgs (F := F)) adm) EP 0 c)
      iexact Hc
    · iapply (Entails.of_eq (bigSep_congr fun c _ => bigSep_univ_of_subsingleton (0 : Fin 1)) :
        (bigSep Finset.univ fun c : Dev nD => bigSep Finset.univ fun p : Fin 1 => Pipeline.toksInit (Pipeline.pin (pcfgs (F := F)) adm) EP p c) ⊢ bigSep Finset.univ fun c : Dev nD => Pipeline.toksInit (Pipeline.pin (pcfgs (F := F)) adm) EP 0 c)
      iexact Ht
  rw [show (bigSep Finset.univ fun thr : Thread nD τ => bigSep Finset.univ fun q : Fin 1 => (P (F := F) (W1 m)).x q thr) = bigSep Finset.univ fun _ => BI.emp from
    bigSep_congr fun _ _ => bigSep_univ_of_subsingleton (0 : Fin 1), bigSep_emp_const]
  iempintro

/-- What the end of device `d` says of the final memory. -/
def fq (d : Dev nD) (s' : Phys nD τ sig (Elt F)) : Prop := ∀ b ∈ Pipeline.ucRefs τ sig, s'.mem.mem (d, b) = W5 m d b

theorem hfin (d : Dev nD) (s' : Phys nD τ sig (Elt F)) : iprop(FIN m d ∗ SI s') ⊢ (⌜fq m d s'⌝ : sProp 𝕄) := fun x hx b hb => by
  have h : iprop(FIN m d ∗ SI s') ⊢ (⌜s'.mem.mem (d, b) = W5 m d b⌝ : sProp 𝕄) := by
    unfold FIN held
    iintro ⟨H, HSI⟩
    ihave Hi := (SparseCore.ent (bigSep_elim (Φ := fun b : DevRef τ sig => (((d, b) : Loc nD τ sig) ↦{fullShare} W5 m d b : sProp 𝕄)) hb)) $$ H
    ihave H := (SI_pointsTo_agree (st := s') (ℓ := (d, b)) (I := Finset.univ) (q := fullShare) (f := W5 m d b)) $$ [HSI Hi]
    · isplitl [HSI] <;> iassumption
    icases H with %hx
    ipureintro; exact funext fun i => hx i (Finset.mem_univ i)
  exact h x hx

/-- What the program computes: the four results from the launch's contents, the arguments kept, every semaphore at nought. -/
def QC (r : PUnit × MemSt nD τ sig (Elt F)) : Prop :=
  (∀ d : Dev nD, r.2.mem ((d : Thread nD τ).loc main_v21) = W5 m d (Proc.devRef .tc main_v21)
    ∧ r.2.mem ((d : Thread nD τ).loc main_v20_1) = lhsV (R3 m) d ∧ r.2.mem ((d : Thread nD τ).loc main_v20_2) = relV (R3 m) d ∧ r.2.mem ((d : Thread nD τ).loc main_v20_3) = rhsV (R3 m) d
    ∧ r.2.mem ((d : Thread nD τ).loc main_arg0) = m ((d : Thread nD τ).loc main_arg0)
    ∧ r.2.mem ((d : Thread nD τ).loc main_arg1) = m ((d : Thread nD τ).loc main_arg1)
    ∧ r.2.mem ((d : Thread nD τ).loc main_arg2) = m ((d : Thread nD τ).loc main_arg2))
  ∧ r.2.sem = fun _ => 0

theorem W5_arg0 (d : Dev nD) : W5 m d (Proc.devRef .tc main_arg0) = m (d, Proc.devRef .tc main_arg0) := by
  rw [show W5 m d (Proc.devRef .tc main_arg0) = W4 m d (Proc.devRef .tc main_arg0) from C_arg0 _, show W4 m d (Proc.devRef .tc main_arg0) = W3 m d (Proc.devRef .tc main_arg0) from W4_ne m d main_arg0 (by decide) (by decide) (by decide) (by decide),
    show W3 m d (Proc.devRef .tc main_arg0) = W2 m d (Proc.devRef .tc main_arg0) from B_arg0 _,
    show W2 m d (Proc.devRef .tc main_arg0) = W1 m d (Proc.devRef .tc main_arg0) from after1_ne _ _ _ (by decide) (by decide) (by decide)]
  exact A_arg0 _
theorem W5_arg1 (d : Dev nD) : W5 m d (Proc.devRef .tc main_arg1) = m (d, Proc.devRef .tc main_arg1) := by
  rw [show W5 m d (Proc.devRef .tc main_arg1) = W4 m d (Proc.devRef .tc main_arg1) from C_arg1 _, show W4 m d (Proc.devRef .tc main_arg1) = W3 m d (Proc.devRef .tc main_arg1) from W4_ne m d main_arg1 (by decide) (by decide) (by decide) (by decide),
    show W3 m d (Proc.devRef .tc main_arg1) = W2 m d (Proc.devRef .tc main_arg1) from B_arg1 _,
    show W2 m d (Proc.devRef .tc main_arg1) = W1 m d (Proc.devRef .tc main_arg1) from after1_ne _ _ _ (by decide) (by decide) (by decide)]
  exact A_arg1 _
theorem W5_arg2 (d : Dev nD) : W5 m d (Proc.devRef .tc main_arg2) = m (d, Proc.devRef .tc main_arg2) := by
  rw [show W5 m d (Proc.devRef .tc main_arg2) = W4 m d (Proc.devRef .tc main_arg2) from C_arg2 _, show W4 m d (Proc.devRef .tc main_arg2) = W3 m d (Proc.devRef .tc main_arg2) from W4_ne m d main_arg2 (by decide) (by decide) (by decide) (by decide),
    show W3 m d (Proc.devRef .tc main_arg2) = W2 m d (Proc.devRef .tc main_arg2) from B_arg2 _,
    show W2 m d (Proc.devRef .tc main_arg2) = W1 m d (Proc.devRef .tc main_arg2) from after1_ne _ _ _ (by decide) (by decide) (by decide)]
  exact A_arg2 _

theorem QC_of (s' : Phys nD τ sig (Elt F)) (h : ∀ d, fq m d s') (hz : s'.mem.sem = fun _ => 0) : QC m (⟨⟩, s'.mem) :=
  ⟨fun d => ⟨h d _ (by decide +revert), (h d _ (by decide +revert)).trans ((C_v20_1 _).trans (W4_1 m d)), (h d _ (by decide +revert)).trans ((C_v20_2 _).trans (W4_2 m d)),
    (h d _ (by decide +revert)).trans ((C_v20_3 _).trans (W4_3 m d)), (h d _ (by decide +revert)).trans (W5_arg0 m d), (h d _ (by decide +revert)).trans (W5_arg1 m d), (h d _ (by decide +revert)).trans (W5_arg2 m d)⟩, hz⟩

/-- The run of the whole program, over any float values: if every row number is in range, it ends as `QC` says. -/
theorem run_main (hpre : IdxOK (W1 m)) : θ_run ((K (F := F)).defs (D (F := F))) ((K (F := F)).threads main) ⟨m, fun _ => 0, ρ⟩ (QC m) :=
  SparseCore.Cfg.θ_run_sc_quiescent (K := K) (D := D) (𝒱 := 𝒱) (EH := EH) (P := P (W1 m)) (A := ∅) facts v₀
    (fun q hq => match q with | 0 => nomatch hq) (fun q _ => match q with | 0 => tileObl (W1 m) facts hpre)
    (fun q _ => match q with | 0 => SparseCore.Cfg.VecSplit.of_plain (vecSplit (W1 m))) m ρ main (fun d => G d) (FIN m) u₀ (sep_elim_left.trans (hu₀ m)) (hmain m ρ) (fq m) (hfin m) (QC m) (QC_of m)

end Cert.Proof.Score

end
-- ==== Proof.Range.lean ====
module

public import proofs.«01_k».proof.Pre_in_range
public import proofs.«01_k».proof.Proof.HostVals
public import Idealize.ShloMosaic.Lib.ReduceAll
public import Idealize.ShloMosaic.Lib.StableHlo.Predicate

@[expose] public section

noncomputable section

namespace Cert.Proof.Score

open Cert.KernelIdeal Cert.KernelIdeal.Gen

open Idealize.ShloMosaic
open Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

/-- The precondition, word by word: every word read is, as a natural number, a row of its table. -/
theorem small_of_pre [Cert.Pre_in_range.Facts] (q : S1024x4.Idx → BitVec 32) (e : S100000x32.Idx → F .f32) (r : S1000x32.Idx → F .f32)
    (h : Cert.Pre_in_range.fn (F := F) q e r = fun _ => 1#1) (x : S1024.Idx) :
    (col0 (F := F) q x).toNat < 100000 ∧ (col1 (F := F) q x).toNat < 1000 ∧ (col2 (F := F) q x).toNat < 100000 := by
  haveI : Subsingleton Cert.Pre_in_range.S_.Idx := ⟨fun a b => funext fun i => i.elim0⟩
  have h0 := congrFun h (fun i => i.elim0)
  unfold Cert.Pre_in_range.fn Cert.Pre_in_range.fn_part1 at h0
  have h1 := Host.reduce_andi_all _ _ _ _ _ h0 x
  change IntOp.andi (IntOp.andi (IntOp.andi (IntOp.andi (IntOp.andi (IntOp.cmpi .sge (col0 (F := F) q x) 0#32) (IntOp.cmpi .slt (col0 (F := F) q x) 100000#32))
    (IntOp.cmpi .sge (col1 (F := F) q x) 0#32)) (IntOp.cmpi .slt (col1 (F := F) q x) 1000#32)) (IntOp.cmpi .sge (col2 (F := F) q x) 0#32)) (IntOp.cmpi .slt (col2 (F := F) q x) 100000#32) = 1#1 at h1
  simp only [IntOp.andi_eq_one] at h1
  obtain ⟨⟨⟨⟨⟨h1, h2⟩, h3⟩, h4⟩, h5⟩, h6⟩ := h1
  have key : ∀ w n : BitVec 32, n.toNat < 2 ^ 31 → IntOp.cmpi .sge w 0#32 = 1#1 → IntOp.cmpi .slt w n = 1#1 → w.toNat < n.toNat := by
    intro w n hn g1 g2
    simp only [IntOp.cmpi, StableHlo.Predicate.ofBool_eq_one_iff, BitVec.sle_eq_decide, BitVec.slt_eq_decide, decide_eq_true_eq, BitVec.toInt_eq_toNat_cond,
      BitVec.toNat_ofNat, Nat.reducePow, Nat.reduceMod] at g1 g2
    omega
  exact ⟨key _ _ (by decide) h1 h2, key _ _ (by decide) h3 h4, key _ _ (by decide) h5 h6⟩

/-- The floor of a word's quarter, as the host spells it, -/
def fdw (w : BitVec 32) : BitVec 32 :=
  Scalar.select (IntOp.andi (IntOp.cmpi .ne (if w = 0 then 0 else if w.msb then -1 else 1) (1#32)) (IntOp.cmpi .ne (IntOp.remsi .host w 4#32) 0#32))
    (IntOp.subi (IntOp.divsi .host w 4#32) 1#32) (IntOp.divsi .host w 4#32)
/-- and its remainder. -/
def rmw (w : BitVec 32) : BitVec 32 :=
  Scalar.select (IntOp.andi (IntOp.cmpi .ne (IntOp.cmpi .slt (IntOp.remsi .host w 4#32) 0#32) 0#1) (IntOp.cmpi .ne (IntOp.remsi .host w 4#32) 0#32))
    (IntOp.addi (IntOp.remsi .host w 4#32) 4#32) (IntOp.remsi .host w 4#32)

theorem fdiv4_apply (x : S1024.Idx → BitVec 32) (j) : fdiv4 (F := F) x j = fdw (x j) := by
  have h : ∀ i, signi (constantI S_ 32 4#32) i = 1#32 := fun _ => by decide +revert
  have e : fdiv4 (F := F) x j = Scalar.select (IntOp.andi (IntOp.cmpi .ne (if x j = 0 then 0 else if (x j).msb then -1 else 1) (signi (constantI S_ 32 4#32) (fun i => i.elim0)))
    (IntOp.cmpi .ne (IntOp.remsi .host (x j) 4#32) 0#32)) (IntOp.subi (IntOp.divsi .host (x j) 4#32) 1#32) (IntOp.divsi .host (x j) 4#32) := rfl
  rw [e, h]; rfl
theorem rem4_apply (x : S1024.Idx → BitVec 32) (j) : rem4 (F := F) x j = rmw (x j) := by
  have hf : four (F := F) = fun _ => 4#32 := funext fun _ => (by decide : Scalar.select (IntOp.cmpi .eq 4#32 0#32) 1#32 4#32 = 4#32)
  unfold rem4; rw [hf]; rfl

/-- On a word that is not negative the host's two divisions are the natural numbers'. -/
theorem divsi_four (w : BitVec 32) (h : w.toNat < 2 ^ 31) : IntOp.divsi .host w 4#32 = BitVec.ofNat 32 (w.toNat / 4) := by
  have hc : ¬ IntOp.SDivCorner w 4#32 := by rintro (h | ⟨-, h⟩) <;> exact absurd h (by decide)
  have hm : w.msb = false := by rw [BitVec.msb_eq_false_iff_two_mul_lt]; omega
  unfold IntOp.divsi; rw [if_neg hc, BitVec.sdiv_eq, hm]
  apply BitVec.eq_of_toNat_eq
  simp [show (4#32).msb = false from by decide]; omega
theorem remsi_four (w : BitVec 32) (h : w.toNat < 2 ^ 31) : IntOp.remsi .host w 4#32 = BitVec.ofNat 32 (w.toNat % 4) := by
  have hc : ¬ IntOp.SDivCorner w 4#32 := by rintro (h | ⟨-, h⟩) <;> exact absurd h (by decide)
  have hm : w.msb = false := by rw [BitVec.msb_eq_false_iff_two_mul_lt]; omega
  unfold IntOp.remsi; rw [if_neg hc, BitVec.srem_eq, hm]
  apply BitVec.eq_of_toNat_eq
  simp [show (4#32).msb = false from by decide]; omega

theorem fdw_toNat (w : BitVec 32) (h : w.toNat < 2 ^ 31) : (fdw w).toNat = w.toNat / 4 := by
  have hm : w.msb = false := by rw [BitVec.msb_eq_false_iff_two_mul_lt]; omega
  have hc : IntOp.andi (IntOp.cmpi .ne (if w = 0 then 0 else if w.msb then -1 else 1) (1#32)) (IntOp.cmpi .ne (IntOp.remsi .host w 4#32) 0#32) = 0#1 := by
    by_cases h0 : w = 0
    · subst h0; rw [remsi_four _ h]; decide
    · rw [if_neg h0, hm]; simp [IntOp.cmpi, IntOp.andi]
  unfold fdw; rw [hc, divsi_four w h]; simp [Scalar.select]; omega

theorem rmw_toNat (w : BitVec 32) (h : w.toNat < 2 ^ 31) : (rmw w).toNat = w.toNat % 4 := by
  have hr : w.toNat % 4 < 4 := Nat.mod_lt _ (by decide)
  have key : ∀ n < 4, (Scalar.select (IntOp.andi (IntOp.cmpi .ne (IntOp.cmpi .slt (BitVec.ofNat 32 n) 0#32) 0#1) (IntOp.cmpi .ne (BitVec.ofNat 32 n) 0#32))
    (IntOp.addi (BitVec.ofNat 32 n) 4#32) (BitVec.ofNat 32 n)).toNat = n := by decide
  unfold rmw; rw [remsi_four w h]; exact key _ hr

end Cert.Proof.Score

end
-- ==== Proof.Frames.lean ====
module

public import proofs.«01_k».proof.Defs
public import proofs.«01_k».proof.Proof.Gen.Kernel
public import proofs.«01_k».proof.Proof.Gen.Pre_in_range
public import proofs.«01_k».proof.Proof.Gen.ReferenceIdeal.Run
public import proofs.«01_k».proof.Proof.Launch
public import proofs.«01_k».proof.Proof.Range
public import Idealize.ShloMosaic.Lib.Quiescent

@[expose] public section

noncomputable section

namespace Cert.Proof.Score

open Cert.KernelIdeal Cert.KernelIdeal.Gen

open Idealize.ShloMosaic
open Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local instance : Cert.Pre_in_range.Facts := Cert.Pre_in_range.Gen.facts
local instance : Cert.ReferenceIdeal.Facts := Cert.ReferenceIdeal.Gen.facts
local instance : Cert.Kernel.Facts := Cert.Kernel.Gen.facts

variable (m : (ℓ : Loc nD τ sig) → Buf (Elt F) ℓ) (ρ : Dev nD → PrngReg)

/-- The precondition bounds every row number that the gathers read. -/
theorem idxOK_of_pre (h : ∀ d : Dev nD, Cert.Pre_in_range.fn (F := F) (m ((d : Thread nD τ).loc main_arg0)) (m ((d : Thread nD τ).loc main_arg1)) (m ((d : Thread nD τ).loc main_arg2)) = fun _ => 1#1) :
    IdxOK (W1 m) := by
  intro d
  have hs := small_of_pre _ _ _ (h d)
  have e0 : i0V (W1 m) d = fdiv4 (col0 (m ((d : Thread nD τ).loc main_arg0))) := A_v8 _
  have e1 : i1V (W1 m) d = fdiv4 (col1 (m ((d : Thread nD τ).loc main_arg0))) := A_v9 _
  have e2 : i2V (W1 m) d = fdiv4 (col2 (m ((d : Thread nD τ).loc main_arg0))) := A_v10 _
  refine ⟨fun j => ?_, fun j => ?_, fun j => ?_⟩ <;> obtain ⟨h0, h1, h2⟩ := hs j
  · rw [e0, fdiv4_apply, fdw_toNat _ (lt_trans h0 (by decide))]; omega
  · rw [e1, fdiv4_apply, fdw_toNat _ (lt_trans h1 (by decide))]; omega
  · rw [e2, fdiv4_apply, fdw_toNat _ (lt_trans h2 (by decide))]; omega

/-- The frame, over any float values. -/
theorem frame_any (h : ∀ d : Dev nD, Cert.Pre_in_range.fn (F := F) (m ((d : Thread nD τ).loc main_arg0)) (m ((d : Thread nD τ).loc main_arg1)) (m ((d : Thread nD τ).loc main_arg2)) = fun _ => 1#1) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run Cert.KernelIdeal.defs _ _).mono (fun _ h => ⟨fun c => (h.1 c).2.2.2.2, h.2⟩) (run_main m ρ (idxOK_of_pre m h))

/-- The kernel's frame over the ideal values, -/
theorem frame_ki : Cert.quiescent_KernelIdeal := fun m ρ h => frame_any m ρ h

/-- The program and its idealized reading have one body table, -/
theorem defs₀_eq : Cert.Kernel.defs₀ (F := F) = Cert.KernelIdeal.defs₀ := by
  funext p l a
  match p, l, a with
  | .tc, 0, _ => rfl
  | .tc, 1, _ => rfl
  | .scScalar _, 0, _ => rfl
  | .scScalar _, 1, _ => rfl
  | .scVector _ _, 0, _ => rfl
  | .scVector _ _, 1, _ => rfl

set_option maxHeartbeats 4000000 in
theorem defs_eq : Cert.Kernel.defs (F := F) = Cert.KernelIdeal.defs :=
  congrArg (fun D => (Cert.KernelIdeal.sc (F := F)).defs (Pipeline.defs Cert.KernelIdeal.pcfgs D)) defs₀_eq

set_option maxHeartbeats 4000000 in
set_option maxRecDepth 100000 in
/-- so the frame holds of both. -/
theorem frame_k : Cert.quiescent_Kernel := by
  intro m ρ h
  have H := frame_any (F := Bits) m ρ h
  rw [← defs_eq] at H
  exact H

/-- and the reference's. -/
theorem frame_r : Cert.quiescent_ReferenceIdeal := fun m ρ _ =>
  (θ_run Cert.ReferenceIdeal.defs _ _).mono (fun r h => ⟨fun c => ((h c).2.2.2.2), sem_eq_zero_of_no_sems (by decide) r.2⟩) (Cert.ReferenceIdeal.Value.run (F := Ideal) m ρ)

end Cert.Proof.Score

end
-- ==== Proof.Select.lean ====
module

public import proofs.«01_k».proof.Proof.Range
public import proofs.«01_k».proof.Proof.Body
public import Idealize.ShloMosaic.Lib.Pointwise
public import Idealize.ShloMosaic.Lib.Pointwise.IndexBridge

@[expose] public section

noncomputable section

namespace Cert.Proof.Score

open Cert.KernelIdeal Cert.KernelIdeal.Gen

open Idealize.ShloMosaic
open Idealize.ShloMosaic.TcCoe

variable {F : FTy → Type} [FloatOps F]

/-! The TensorCore's selection: out of a packed row of four, the one its chunk number names. -/

/-- The four tests in order: chunk `w`, below four, selects the `w`-th value. -/
theorem select4 {α : Type} (w : BitVec 32) (h : w.toNat < 4) (a : ℕ → α) (z : α) :
    Scalar.select (IntOp.cmpi .eq w 3#32) (a 3) (Scalar.select (IntOp.cmpi .eq w 2#32) (a 2) (Scalar.select (IntOp.cmpi .eq w 1#32) (a 1) (Scalar.select (IntOp.cmpi .eq w 0#32) (a 0) z))) = a w.toNat := by
  obtain ⟨n, hn⟩ : ∃ n : Fin 4, w = BitVec.ofNat 32 n.val := ⟨⟨w.toNat, h⟩, by simp⟩
  subst hn
  fin_cases n <;> rfl

/-- Lane `32 c + k` of row `i`, as a function of `c` over all natural numbers. -/
def lane (l : S1024x128.Idx → F .f32) (i : Fin 1024) (k : Fin 32) (c : ℕ) : F .f32 := l (ix2 i (⟨(32 * c + k.val) % 128, Nat.mod_lt _ (by decide)⟩ : Fin 128))

theorem lane_eq (l : S1024x128.Idx → F .f32) (i : Fin 1024) (k : Fin 32) (c n : ℕ) (hn : n < 128) (h : n = 32 * c + k.val) : l (ix2 i (⟨n, hn⟩ : Fin 128)) = lane l i k c := by
  subst h; unfold lane; congr 2; exact Fin.ext (Nat.mod_eq_of_lt hn).symm

set_option maxRecDepth 16384 in
/-- The left rows, read at an entry. -/
theorem lhsB_apply (l : S1024x128.Idx → F .f32) (ch : S1024x1.Idx → BitVec 32) (i : Fin 1024) (k : Fin 32) (h : (ch (ix2 i (0 : Fin 1))).toNat < 4) :
    lhsB l ch (ix2 i k) = lane l i k (ch (ix2 i (0 : Fin 1))).toNat := by
  rw [← select4 _ h (lane l i k) (Scalar.ofBits .f32 0x00000000#32)]
  pointwise [lhsB, k1_pay2]
  rw [lane_eq l i k 3 _ _ rfl, lane_eq l i k 2 _ _ rfl, lane_eq l i k 1 _ _ rfl, lane_eq l i k 0 _ _ (by omega)]

set_option maxRecDepth 16384 in
/-- The relation rows, read at an entry. -/
theorem relB_apply (l : S1024x128.Idx → F .f32) (ch : S1024x1.Idx → BitVec 32) (i : Fin 1024) (k : Fin 32) (h : (ch (ix2 i (0 : Fin 1))).toNat < 4) :
    relB l ch (ix2 i k) = lane l i k (ch (ix2 i (0 : Fin 1))).toNat := by
  rw [← select4 _ h (lane l i k) (Scalar.ofBits .f32 0x00000000#32)]
  pointwise [relB, k1_pay3, k1_pay4, k1_pay5, k1_pay6, k1_pay7, k1_pay8]
  rw [lane_eq l i k 3 _ _ rfl, lane_eq l i k 2 _ _ rfl, lane_eq l i k 1 _ _ rfl, lane_eq l i k 0 _ _ (by omega)]

set_option maxRecDepth 16384 in
/-- The right rows, read at an entry. -/
theorem rhsB_apply (l : S1024x128.Idx → F .f32) (ch : S1024x1.Idx → BitVec 32) (i : Fin 1024) (k : Fin 32) (h : (ch (ix2 i (0 : Fin 1))).toNat < 4) :
    rhsB l ch (ix2 i k) = lane l i k (ch (ix2 i (0 : Fin 1))).toNat := by
  rw [← select4 _ h (lane l i k) (Scalar.ofBits .f32 0x00000000#32)]
  pointwise [rhsB, k1_pay9]
  rw [lane_eq l i k 3 _ _ rfl, lane_eq l i k 2 _ _ rfl, lane_eq l i k 1 _ _ rfl, lane_eq l i k 0 _ _ (by omega)]

/-! The packing: row `r` of a packed table holds rows `4 r` to `4 r + 3` of the table side by side. -/

/-- Row `w` of a table of `n` rows, for each word `w` of a list. -/
def taken {n : ℕ} (hn : 0 < n) (tab : (⟨2, ![n, 32]⟩ : Shape).Idx → F .f32) (ix : S1024.Idx → BitVec 32) : S1024x32.Idx → F .f32 :=
  fun x => tab (ix2 (⟨(ix (ix1 (x 0))).toNat % n, Nat.mod_lt _ hn⟩ : Fin n) (x 1))

theorem pick_apply {n : ℕ} (hn : 0 < n) (tab : (⟨2, ![n, 128]⟩ : Shape).Idx → F .f32) (ix : S1024.Idx → BitVec 32) (i : Fin 1024) (b : Fin 128) :
    pick hn tab ix (ix2 i b) = tab (ix2 (⟨(ix (ix1 i)).toNat % n, Nat.mod_lt _ hn⟩ : Fin n) b) := by
  have e : ∀ j : S1024.Idx, j = ix1 (j 0) := fun j => funext fun a => by match a with | ⟨0, _⟩ => rfl
  unfold pick
  refine congrArg tab (funext fun a => ?_)
  match a with
  | ⟨0, _⟩ => exact Fin.ext (congrArg (fun j => (ix j).toNat % n) (e _))
  | ⟨1, _⟩ => rfl

set_option maxRecDepth 16384 in
/-- The gathered packed row of the entity table, at the lanes of a word's chunk, is the word's row. -/
theorem lane_entity (tab : S100000x32.Idx → F .f32) (x : S1024.Idx → BitVec 32) (hx : ∀ j, (x j).toNat < 100000) (i : Fin 1024) (k : Fin 32) :
    lane (pick (n := 25000) (by decide) (shapeCast S25000x128 tab shapeCasts_S100000x32_S25000x128) (fdiv4 (F := F) x)) i k (rmw (x (ix1 i))).toNat
      = taken (n := 100000) (by decide) tab x (ix2 i k) := by
  have h := hx (ix1 i)
  have e : ∀ (a : Fin 25000) (b : Fin 128), shapeCast S25000x128 tab shapeCasts_S100000x32_S25000x128 (ix2 a b) = tab (ix2 (⟨a.val * 4 + b.val / 32, by omega⟩ : Fin 100000) (⟨b.val % 32, by omega⟩ : Fin 32)) := by
    intro a b
    pointwise
  have hk := k.isLt
  unfold lane taken
  rw [pick_apply, e]
  refine congrArg tab (congrArg₂ ix2 (Fin.ext ?_) (Fin.ext ?_))
  · show (fdiv4 (F := F) x (ix1 i)).toNat % 25000 * 4 + (32 * (rmw (x (ix1 i))).toNat + k.val) % 128 / 32 = (x (ix1 i)).toNat % 100000
    rw [fdiv4_apply, fdw_toNat _ (by omega), rmw_toNat _ (by omega)]
    omega
  · show (32 * (rmw (x (ix1 i))).toNat + k.val) % 128 % 32 = k.val
    omega

set_option maxRecDepth 16384 in
/-- The same of the relation table. -/
theorem lane_relation (tab : S1000x32.Idx → F .f32) (x : S1024.Idx → BitVec 32) (hx : ∀ j, (x j).toNat < 1000) (i : Fin 1024) (k : Fin 32) :
    lane (pick (n := 250) (by decide) (shapeCast S250x128 tab shapeCasts_S1000x32_S250x128) (fdiv4 (F := F) x)) i k (rmw (x (ix1 i))).toNat
      = taken (n := 1000) (by decide) tab x (ix2 i k) := by
  have h := hx (ix1 i)
  have e : ∀ (a : Fin 250) (b : Fin 128), shapeCast S250x128 tab shapeCasts_S1000x32_S250x128 (ix2 a b) = tab (ix2 (⟨a.val * 4 + b.val / 32, by omega⟩ : Fin 1000) (⟨b.val % 32, by omega⟩ : Fin 32)) := by
    intro a b
    pointwise
  have hk := k.isLt
  unfold lane taken
  rw [pick_apply, e]
  refine congrArg tab (congrArg₂ ix2 (Fin.ext ?_) (Fin.ext ?_))
  · show (fdiv4 (F := F) x (ix1 i)).toNat % 250 * 4 + (32 * (rmw (x (ix1 i))).toNat + k.val) % 128 / 32 = (x (ix1 i)).toNat % 1000
    rw [fdiv4_apply, fdw_toNat _ (by omega), rmw_toNat _ (by omega)]
    omega
  · show (32 * (rmw (x (ix1 i))).toNat + k.val) % 128 % 32 = k.val
    omega

end Cert.Proof.Score

end
-- ==== Proof.Scores.lean ====
module

public import proofs.«01_k».proof.Proof.HostVals
public import proofs.«01_k».proof.Proof.RegionData
public import Idealize.ShloMosaic.Lib.Pointwise
public import Idealize.ShloMosaic.Lib.Pointwise.IndexBridge

@[expose] public section

noncomputable section

namespace Cert.Proof.Score

open Cert.KernelIdeal Cert.KernelIdeal.Gen

open Idealize.ShloMosaic
open Idealize.ShloMosaic.TcCoe

variable {F : FTy → Type} [FloatOps F]

/-! The kernel's scores over the real numbers. -/

set_option maxRecDepth 16384 in
/-- A product block of the kernel: the sum, over the 32 lanes, of the block's column times the query product. -/
theorem block_apply (q : S1024x32.Idx → Elt Ideal .bf16) (v : S32x512.Idx → Elt Ideal .f32) (a : Fin 512) (i : Fin 1024) :
    k1_pay12 (F := Ideal) q v (ix2 a i) = ∑ k : Fin 32, v (ix2 k a) * q (ix2 i k) := by
  pointwise [k1_pay12]

/-- The query products: rounding is no change over the real numbers. -/
theorem q16_apply (l r : S1024x32.Idx → Elt Ideal .f32) (i : Fin 1024) (k : Fin 32) : q16 (F := Ideal) l r (ix2 i k) = l (ix2 i k) * r (ix2 i k) := by
  pointwise [q16, k1_pay10]

set_option maxRecDepth 16384 in
/-- Inside the table's own columns the padded, turned table holds the table. -/
theorem padT_apply (e : S100000x32.Idx → F .f32) (k : Fin 32) (n : Fin 100352) (h : n.val < 100000) : padT e (ix2 k n) = e (ix2 (⟨n.val, h⟩ : Fin 100000) k) := by
  pointwise [padT]
  rw [dif_pos h]

/-- The whole score array, read at an entry. -/
theorem scoreT_apply (e : S100000x32.Idx → Elt Ideal .f32) (l r : S1024x32.Idx → Elt Ideal .f32) (n : Fin 100000) (i : Fin 1024) :
    scoreT (F := Ideal) (padT e) (q16 (F := Ideal) l r) (ix2 n i) = ∑ k : Fin 32, e (ix2 n k) * (l (ix2 i k) * r (ix2 i k)) := by
  have hn := n.isLt
  have hs : scoreT (F := Ideal) (padT e) (q16 (F := Ideal) l r) (ix2 n i) = k1_pay12 (F := Ideal) (q16 (F := Ideal) l r) (cols (padT e) 512 (n.val / 512)) (ix2 (⟨n.val % 512, Nat.mod_lt _ (by decide)⟩ : Fin 512) i) :=
    congrArg (k1_pay12 (F := Ideal) _ _) (ix2_eq_valueIdx _ _).symm
  rw [hs]
  refine (block_apply _ _ _ _).trans (Finset.sum_congr rfl fun k _ => ?_)
  refine congrArg₂ (fun a b : EReal => a * b) ?_ (q16_apply l r i k)
  have hc : cols (padT e) 512 (n.val / 512) (ix2 k (⟨n.val % 512, Nat.mod_lt _ (by decide)⟩ : Fin 512)) = padT e (ix2 k (⟨(512 * (n.val / 512) + n.val % 512) % 100352, Nat.mod_lt _ (by decide)⟩ : Fin 100352)) :=
    congrArg (padT e) (ix2_eq_valueIdx _ _).symm
  rw [hc]
  have hv : (512 * (n.val / 512) + n.val % 512) % 100352 = n.val := by omega
  have hp := padT_apply (F := Ideal) e k ⟨(512 * (n.val / 512) + n.val % 512) % 100352, Nat.mod_lt _ (by decide)⟩ (hv.trans_lt hn)
  exact hp.trans (congrArg e (congrArg₂ ix2 (Fin.ext hv) rfl))

set_option maxRecDepth 16384 in
/-- The scores returned: the score array turned. -/
theorem turned_apply (s : S100000x1024.Idx → F .f32) (i : Fin 1024) (n : Fin 100000) : transpose S1024x100000 [1, 0] s transposes_S100000x1024_S1024x100000_1_0 (ix2 i n) = s (ix2 n i) := by
  pointwise

end Cert.Proof.Score

end
-- ==== Proof.Results.lean ====
module

public import proofs.«01_k».proof.Proof.Run
public import proofs.«01_k».proof.Proof.Select
public import proofs.«01_k».proof.Proof.Scores

@[expose] public section

noncomputable section

namespace Cert.Proof.Score

open Cert.KernelIdeal Cert.KernelIdeal.Gen

open Idealize.ShloMosaic
open Idealize.ShloMosaic.TcCoe

variable {F : FTy → Type} [FloatOps F]

variable (m : (ℓ : Loc nD τ sig) → Buf (Elt F) ℓ)

/-! The four results of the kernel, in terms of its arguments. -/

/-- The chunk column holds, at row `i`, the remainder of word `i`. -/
theorem chunk_apply (x : S1024.Idx → BitVec 32) (i : Fin 1024) : shapeCast S1024x1 (rem4 (F := F) x) shapeCasts_S1024_S1024x1 (ix2 i (0 : Fin 1)) = rmw (x (ix1 i)) := by
  have e : shapeCast S1024x1 (rem4 (F := F) x) shapeCasts_S1024_S1024x1 (ix2 i (0 : Fin 1)) = rem4 (F := F) x (ix1 i) := by
    generalize rem4 (F := F) x = y
    pointwise
  rw [e, rem4_apply]

/-- The left rows are the entity rows that the first column names. -/
theorem lhsV_eq (d : Dev nD) (hx : ∀ j, (col0 (F := F) (m ((d : Thread nD τ).loc main_arg0)) j).toNat < 100000) :
    lhsV (R3 m) d = taken (n := 100000) (by decide) (m ((d : Thread nD τ).loc main_arg1)) (col0 (F := F) (m ((d : Thread nD τ).loc main_arg0))) := by
  have e1 : R3 m d main_v11_0 = pick (n := 25000) (by decide) (shapeCast S25000x128 (m ((d : Thread nD τ).loc main_arg1)) shapeCasts_S100000x32_S25000x128) (fdiv4 (F := F) (col0 (F := F) (m ((d : Thread nD τ).loc main_arg0)))) :=
    ((B_v11_0 (W2 m d)).trans (after1_0 (W1 m) d)).trans (congrArg₂ (pick (F := F) (n := 25000) (by decide)) (A_v6 (W0 m d)) (A_v8 (W0 m d)))
  have e2 : R3 m d main_v13 = shapeCast S1024x1 (rem4 (F := F) (col0 (F := F) (m ((d : Thread nD τ).loc main_arg0)))) shapeCasts_S1024_S1024x1 :=
    (B_v13 (W2 m d)).trans (congrArg (fun x => shapeCast S1024x1 (rem4 (F := F) x) shapeCasts_S1024_S1024x1)
      ((after1_ne (W1 m) d (Proc.devRef .tc main_v1) (by decide) (by decide) (by decide)).trans (A_v1 (W0 m d))))
  funext x
  idx_vars x
  have hr : (rmw (col0 (F := F) (m ((d : Thread nD τ).loc main_arg0)) (ix1 x0))).toNat < 4 := by
    rw [rmw_toNat _ (lt_trans (hx _) (by decide))]; omega
  unfold lhsV
  rw [e1, e2]
  refine (lhsB_apply _ _ x0 x1 (by rw [chunk_apply]; exact hr)).trans ?_
  rw [chunk_apply]
  exact lane_entity _ _ hx x0 x1

/-- The relation rows are the relation rows that the second column names. -/
theorem relV_eq (d : Dev nD) (hx : ∀ j, (col1 (F := F) (m ((d : Thread nD τ).loc main_arg0)) j).toNat < 1000) :
    relV (R3 m) d = taken (n := 1000) (by decide) (m ((d : Thread nD τ).loc main_arg2)) (col1 (F := F) (m ((d : Thread nD τ).loc main_arg0))) := by
  have e1 : R3 m d main_v11_1 = pick (n := 250) (by decide) (shapeCast S250x128 (m ((d : Thread nD τ).loc main_arg2)) shapeCasts_S1000x32_S250x128) (fdiv4 (F := F) (col1 (F := F) (m ((d : Thread nD τ).loc main_arg0)))) :=
    ((B_v11_1 (W2 m d)).trans (after1_1 (W1 m) d)).trans (congrArg₂ (pick (F := F) (n := 250) (by decide)) (A_v7 (W0 m d)) (A_v9 (W0 m d)))
  have e2 : R3 m d main_v15 = shapeCast S1024x1 (rem4 (F := F) (col1 (F := F) (m ((d : Thread nD τ).loc main_arg0)))) shapeCasts_S1024_S1024x1 :=
    (B_v15 (W2 m d)).trans (congrArg (fun x => shapeCast S1024x1 (rem4 (F := F) x) shapeCasts_S1024_S1024x1)
      ((after1_ne (W1 m) d (Proc.devRef .tc main_v3) (by decide) (by decide) (by decide)).trans (A_v3 (W0 m d))))
  funext x
  idx_vars x
  have hr : (rmw (col1 (F := F) (m ((d : Thread nD τ).loc main_arg0)) (ix1 x0))).toNat < 4 := by
    rw [rmw_toNat _ (lt_trans (hx _) (by decide))]; omega
  unfold relV
  rw [e1, e2]
  refine (relB_apply _ _ x0 x1 (by rw [chunk_apply]; exact hr)).trans ?_
  rw [chunk_apply]
  exact lane_relation _ _ hx x0 x1

/-- The right rows are the entity rows that the third column names. -/
theorem rhsV_eq (d : Dev nD) (hx : ∀ j, (col2 (F := F) (m ((d : Thread nD τ).loc main_arg0)) j).toNat < 100000) :
    rhsV (R3 m) d = taken (n := 100000) (by decide) (m ((d : Thread nD τ).loc main_arg1)) (col2 (F := F) (m ((d : Thread nD τ).loc main_arg0))) := by
  have e1 : R3 m d main_v11_2 = pick (n := 25000) (by decide) (shapeCast S25000x128 (m ((d : Thread nD τ).loc main_arg1)) shapeCasts_S100000x32_S25000x128) (fdiv4 (F := F) (col2 (F := F) (m ((d : Thread nD τ).loc main_arg0)))) :=
    ((B_v11_2 (W2 m d)).trans (after1_2 (W1 m) d)).trans (congrArg₂ (pick (F := F) (n := 25000) (by decide)) (A_v6 (W0 m d)) (A_v10 (W0 m d)))
  have e2 : R3 m d main_v17 = shapeCast S1024x1 (rem4 (F := F) (col2 (F := F) (m ((d : Thread nD τ).loc main_arg0)))) shapeCasts_S1024_S1024x1 :=
    (B_v17 (W2 m d)).trans (congrArg (fun x => shapeCast S1024x1 (rem4 (F := F) x) shapeCasts_S1024_S1024x1)
      ((after1_ne (W1 m) d (Proc.devRef .tc main_v5) (by decide) (by decide) (by decide)).trans (A_v5 (W0 m d))))
  funext x
  idx_vars x
  have hr : (rmw (col2 (F := F) (m ((d : Thread nD τ).loc main_arg0)) (ix1 x0))).toNat < 4 := by
    rw [rmw_toNat _ (lt_trans (hx _) (by decide))]; omega
  unfold rhsV
  rw [e1, e2]
  refine (rhsB_apply _ _ x0 x1 (by rw [chunk_apply]; exact hr)).trans ?_
  rw [chunk_apply]
  exact lane_entity _ _ hx x0 x1

/-- The padded table the TensorCore reads is the entity table, turned and padded. -/
theorem tabT_eq (d : Dev nD) : tabT (R3 m) d = padT (m ((d : Thread nD τ).loc main_arg1)) :=
  (B_v19 (W2 m d)).trans (congrArg padT ((after1_ne (W1 m) d (Proc.devRef .tc main_arg1) (by decide) (by decide) (by decide)).trans (A_arg1 (W0 m d))))

/-- The score of query `i` against entity `n`: the sum over the lanes of the entity's row times the query product. -/
def scoresOf (e : S100000x32.Idx → Elt Ideal .f32) (l r : S1024x32.Idx → Elt Ideal .f32) : S1024x100000.Idx → Elt Ideal .f32 :=
  fun x => ∑ k : Fin 32, e (ix2 (x 1) k) * (l (ix2 (x 0) k) * r (ix2 (x 0) k))

/-- The scores returned, over the real numbers. -/
theorem scores_eq (m : (ℓ : Loc nD τ sig) → Buf (Elt Ideal) ℓ) (d : Dev nD) :
    W5 m d (Proc.devRef .tc main_v21) = scoresOf (m ((d : Thread nD τ).loc main_arg1)) (lhsV (R3 m) d) (relV (R3 m) d) := by
  have e1 : W5 m d (Proc.devRef .tc main_v21) = transpose S1024x100000 [1, 0] (scV (R3 m) d) transposes_S100000x1024_S1024x100000_1_0 :=
    (C_v21 (W4 m d)).trans (congrArg (fun x => transpose S1024x100000 [1, 0] x transposes_S100000x1024_S1024x100000_1_0) (W4_0 m d))
  have e2 : scV (R3 m) d = scoreT (F := Ideal) (padT (m ((d : Thread nD τ).loc main_arg1))) (q16 (F := Ideal) (lhsV (R3 m) d) (relV (R3 m) d)) := by
    unfold scV qV
    rw [tabT_eq]
  rw [e1, e2]
  funext x
  have key : ∀ (i : Fin 1024) (n : Fin 100000) (s : S100000x1024.Idx → Elt Ideal .f32), transpose S1024x100000 [1, 0] s transposes_S100000x1024_S1024x100000_1_0 (ix2 i n) = s (ix2 n i) :=
    fun i n s => turned_apply (F := Ideal) s i n
  obtain ⟨i, n, rfl⟩ : ∃ (i : Fin 1024) (n : Fin 100000), x = ix2 i n := ⟨x 0, x 1, eq_ix2 x⟩
  exact (key i n _).trans (scoreT_apply _ _ _ n i)

end Cert.Proof.Score

end
-- ==== Proof.Take.lean ====
module

public import proofs.«01_k».proof.Proof.Gen.ReferenceIdeal
public import Idealize.ShloMosaic.Lib.Pointwise
public import Idealize.ShloMosaic.Lib.Pointwise.IndexBridge
public import Idealize.ShloMosaic.Lib.ReduceAll
public import Idealize.ShloMosaic.Lib.Routing.Ops
public import Idealize.ShloMosaic.Lib.Routing.OpsPair

@[expose] public section

noncomputable section

namespace Cert.Proof.Score

open Cert.ReferenceIdeal Cert.ReferenceIdeal.Gen

open Idealize.ShloMosaic
open Idealize.ShloMosaic.TcCoe

variable {F : FTy → Type} [FloatOps F]

/-! The reference's reading of rows, `table[list]`: a negative word counts from the end, a row out of range reads as not a
    number. On a list whose words are all rows of the table it is the rows that the words name. -/

/-- The start indices: the list, with `n` added to a negative word, as a column. -/
def wrapped (n : BitVec 32) (c : S1024.Idx → BitVec 32) : S1024x1.Idx → BitVec 32 :=
  broadcastInDim S1024x1 ![0] bcast_S1024_S1024x1_0 (select (cmpi .slt c (broadcastInDim S1024 ![] bcast_S_S1024 (constantI S_ 32 0#32))) (addi c (broadcastInDim S1024 ![] bcast_S_S1024 (constantI S_ 32 n))) c)

/-- Which rows of the result hold a row of the table: those whose start index lies between nought and `l`. -/
def inside (l : BitVec 32) (x : S1024x1.Idx → BitVec 32) : S1024.Idx → BitVec 1 :=
  Host.reduce IntOp.andi (andi (cmpi .sge x (broadcastInDim S1024x1 ![] bcast_S_S1024x1 (constantI S_ 32 0#32)))
    (cmpi .sle x (broadcastInDim S1024x1 ![0, 1] bcast_S1x1_S1024x1_0_1 (broadcastInDim S1x1 ![1] bcast_S1_S1x1_1 (constantI S1 32 l))))) (constantI S_ 1 1#1) reducesTo_S1024x1_S1024_d1 h_S_

/-- The rows read, of a table of `N` rows gathered by `d`, `n` being its number of rows and `l` its last. -/
def taking {N : ℕ} (d : GatherDims ⟨2, ![N, 32]⟩ S1024x1 S1024x32) (n l : BitVec 32) (tab : (⟨2, ![N, 32]⟩ : Shape).Idx → F .f32) (c : S1024.Idx → BitVec 32) : S1024x32.Idx → F .f32 :=
  select (broadcastInDim S1024x32 ![0] bcast_S1024_S1024x32_0 (inside l (wrapped n c))) (Host.gather d tab (wrapped n c)) (broadcastInDim S1024x32 ![] bcast_S_S1024x32 (constant S_ .f32 0x7FC00000#32))

/-- No word of the list is negative, so the start indices are the list's words. -/
theorem wrapped_apply (n : BitVec 32) (c : S1024.Idx → BitVec 32) (i : Fin 1024) (k : Fin 1) (h : (c (ix1 i)).toNat < 2 ^ 31) : wrapped n c (ix2 i k) = c (ix1 i) := by
  pointwise [wrapped]
  exact Routing.wrap_of_lt _ _ h

/-- Every start index is a row of the table, so every row of the result holds one. -/
theorem inside_apply (N : ℕ) (hN : N ≤ 2 ^ 31) (l : BitVec 32) (hl : l.toNat + 1 = N) (x : S1024x1.Idx → BitVec 32) (hx : ∀ i k, (x (ix2 i k)).toNat < N) (j : S1024.Idx) : inside l x j = 1#1 := by
  refine Host.reduce_andi_one _ _ _ _ _ rfl fun y => ?_
  idx_vars y
  pointwise
  have h := hx y0 y1
  generalize x (ix2 y0 y1) = w at h ⊢
  rw [IntOp.andi_eq_one]
  simp only [IntOp.cmpi, StableHlo.Predicate.ofBool_eq_one_iff, BitVec.sle_eq_decide, decide_eq_true_eq, BitVec.toInt_eq_toNat_cond]
  simp
  omega

/-- The rows read are the rows that the words name. -/
theorem taking_apply {N : ℕ} (d : GatherDims ⟨2, ![N, 32]⟩ S1024x1 S1024x32) (hoff : d.offsetDims = [1]) (hcoll : d.collapsedSliceDims = [0]) (hob : d.operandBatchingDims = [])
    (hsim : d.startIndexMap = [0]) (hivd : d.indexVectorDim = 1) (hN : 0 < N) (hN' : N < 2 ^ 31) (n l : BitVec 32) (hl : l.toNat + 1 = N)
    (tab : (⟨2, ![N, 32]⟩ : Shape).Idx → F .f32) (c : S1024.Idx → BitVec 32) (hc : ∀ j, (c j).toNat < N) (i : Fin 1024) (k : Fin 32) :
    taking d n l tab c (ix2 i k) = tab (ix2 (⟨(c (ix1 i)).toNat % N, Nat.mod_lt _ hN⟩ : Fin N) k) := by
  have hw : ∀ i k, wrapped n c (ix2 i k) = c (ix1 i) := fun i k => wrapped_apply n c i k (lt_trans (hc _) hN')
  have hg := Routing.gather_row d hoff hcoll hob hsim hivd tab (wrapped n c) i k ⟨(c (ix1 i)).toNat % N, Nat.mod_lt _ hN⟩
    (by rw [← ix2_eq_valueIdx, hw]; simp [Nat.mod_eq_of_lt (hc (ix1 i))]) hN'
  rw [← ix2_eq_valueIdx, ← ix2_eq_valueIdx] at hg
  have hm := inside_apply N hN'.le l hl (wrapped n c) (fun i k => by rw [hw]; exact hc _) (ix1 i)
  unfold taking
  pointwise
  rw [hm, hg]
  rfl

end Cert.Proof.Score

end
-- ==== Proof.RefResults.lean ====
module

public import proofs.«01_k».proof.Proof.Gen.ReferenceIdeal.Run
public import proofs.«01_k».proof.Proof.Take

@[expose] public section

noncomputable section

namespace Cert.Proof.Score

open Cert.ReferenceIdeal Cert.ReferenceIdeal.Gen

open Idealize.ShloMosaic
open Idealize.ShloMosaic.TcCoe

variable {F : FTy → Type} [FloatOps F]

open Idealize.SL.Sem

/-! The run of the reference, its three row results spelt by `taking`. -/

/-- The three columns of the queries, as the reference reads them. -/
def rcol0 (q : S1024x4.Idx → Elt F .i32) : S1024.Idx → Elt F .i32 := shapeCast S1024 (extractStridedSlice S1024x1 ![0, 0] q slices_S1024x4_S1024x1_0_0) shapeCasts_S1024x1_S1024
def rcol1 (q : S1024x4.Idx → Elt F .i32) : S1024.Idx → Elt F .i32 := shapeCast S1024 (extractStridedSlice S1024x1 ![0, 1] q slices_S1024x4_S1024x1_0_1) shapeCasts_S1024x1_S1024
def rcol2 (q : S1024x4.Idx → Elt F .i32) : S1024.Idx → Elt F .i32 := shapeCast S1024 (extractStridedSlice S1024x1 ![0, 2] q slices_S1024x4_S1024x1_0_2) shapeCasts_S1024x1_S1024

variable (m : (ℓ : Loc nD τ sig) → Buf (Elt F) ℓ) (ρ : Dev nD → PrngReg)

/-- The rows of the left entities, of the relations and of the right entities. -/
def lhsR (c : Dev nD) : S1024x32.Idx → Elt F .f32 :=
  taking (F := F) gather_S100000x32_S1024x1_S1024x32_1_0_n_n_0_1_132 100000#32 99999#32 (m ((c.tc : Thread nD τ).loc main_arg1)) (rcol0 (F := F) (m ((c.tc : Thread nD τ).loc main_arg0)))
def relR (c : Dev nD) : S1024x32.Idx → Elt F .f32 :=
  taking (F := F) gather_S1000x32_S1024x1_S1024x32_1_0_n_n_0_1_132 1000#32 999#32 (m ((c.tc : Thread nD τ).loc main_arg2)) (rcol1 (F := F) (m ((c.tc : Thread nD τ).loc main_arg0)))
def rhsR (c : Dev nD) : S1024x32.Idx → Elt F .f32 :=
  taking (F := F) gather_S100000x32_S1024x1_S1024x32_1_0_n_n_0_1_132 100000#32 99999#32 (m ((c.tc : Thread nD τ).loc main_arg1)) (rcol2 (F := F) (m ((c.tc : Thread nD τ).loc main_arg0)))
/-- The scores. -/
def scoresR (c : Dev nD) : S1024x100000.Idx → Elt F .f32 :=
  Host.dotGeneral (F := F) (φ₁ := .f32) (φ₂ := .f32) dot_S1024x32_S32x100000_S1024x100000_1_0_0_1_n_n none (mulf (F := F) (φ := .f32) (lhsR m c) (relR m c)) (transpose S32x100000 [1, 0] (m ((c.tc : Thread nD τ).loc main_arg1)) transposes_S100000x32_S32x100000_1_0)

set_option maxRecDepth 16384 in
/-- The reference runs, and ends with the four results of those names, its arguments as they were. -/
theorem ref_run : θ_run defs (onTc (τ := τ) (main (F := F))) ⟨m, fun _ => 0, ρ⟩ fun r => ∀ c : Dev nD,
      r.2.mem ((c.tc : Thread nD τ).loc main_v11) = scoresR m c
      ∧ r.2.mem ((c.tc : Thread nD τ).loc main_v2) = lhsR m c
      ∧ r.2.mem ((c.tc : Thread nD τ).loc main_v5) = relR m c
      ∧ r.2.mem ((c.tc : Thread nD τ).loc main_v8) = rhsR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).1.trans (by unfold Value.res_main_v11; rfl), (h c).2.1.trans rfl, (h c).2.2.1.trans rfl, (h c).2.2.2.1.trans rfl, (h c).2.2.2.2⟩) (Value.run m ρ)

end Cert.Proof.Score

end
-- ==== Proof.RefScores.lean ====
module

public import proofs.«01_k».proof.Proof.Gen.ReferenceIdeal
public import Idealize.ShloMosaic.Lib.Pointwise

@[expose] public section

noncomputable section

namespace Cert.Proof.Score

open Cert.ReferenceIdeal Cert.ReferenceIdeal.Gen

open Idealize.ShloMosaic
open Idealize.ShloMosaic.TcCoe

variable {F : FTy → Type} [FloatOps F]

/-! The reference's scores over the real numbers. -/

set_option maxRecDepth 16384 in
/-- The reference's product, read at an entry: the sum, over the 32 lanes, of the query product times the entity's row. -/
theorem dot_apply (l r : S1024x32.Idx → Elt Ideal .f32) (e : S100000x32.Idx → Elt Ideal .f32) (i : Fin 1024) (n : Fin 100000) :
    Host.dotGeneral (F := Ideal) (φ₁ := .f32) (φ₂ := .f32) dot_S1024x32_S32x100000_S1024x100000_1_0_0_1_n_n none (mulf (F := Ideal) (φ := .f32) l r) (transpose S32x100000 [1, 0] e transposes_S100000x32_S32x100000_1_0) (ix2 i n)
      = ∑ k : Fin 32, (l (ix2 i k) * r (ix2 i k)) * e (ix2 n k) := by
  pointwise

end Cert.Proof.Score

end
-- ==== Proof.Value.lean ====
module

public import proofs.«01_k».proof.Proof.Frames
public import proofs.«01_k».proof.Proof.Results
public import proofs.«01_k».proof.Proof.RefResults
public import proofs.«01_k».proof.Proof.RefScores

@[expose] public section

noncomputable section

namespace Cert.Proof.Score

open Cert.KernelIdeal Cert.KernelIdeal.Gen

open Idealize.ShloMosaic
open Idealize.ShloMosaic.TcCoe

variable {F : FTy → Type} [FloatOps F]

open Idealize.SL.Sem

local instance : Cert.Pre_in_range.Facts := Cert.Pre_in_range.Gen.facts
local instance : Cert.ReferenceIdeal.Facts := Cert.ReferenceIdeal.Gen.facts

/-! The kernel and the reference return the same four arrays over the real numbers. -/

/-- A reading of rows by the reference is the rows that the words name, as a function. -/
theorem taking_eq {N : ℕ} (d : GatherDims ⟨2, ![N, 32]⟩ S1024x1 S1024x32) (hoff : d.offsetDims = [1]) (hcoll : d.collapsedSliceDims = [0]) (hob : d.operandBatchingDims = [])
    (hsim : d.startIndexMap = [0]) (hivd : d.indexVectorDim = 1) (hN : 0 < N) (hN' : N < 2 ^ 31) (n l : BitVec 32) (hl : l.toNat + 1 = N)
    (tab : (⟨2, ![N, 32]⟩ : Shape).Idx → F .f32) (c : S1024.Idx → BitVec 32) (hc : ∀ j, (c j).toNat < N) :
    taking d n l tab c = taken hN tab c := by
  funext x
  obtain ⟨i, k, rfl⟩ : ∃ (i : Fin 1024) (k : Fin 32), x = ix2 i k := ⟨x 0, x 1, eq_ix2 x⟩
  exact taking_apply d hoff hcoll hob hsim hivd hN hN' n l hl tab c hc i k

section
variable (m : (ℓ : Loc nD τ sig) → Buf (Elt F) ℓ) (m' : (ℓ : Loc Cert.ReferenceIdeal.nD Cert.ReferenceIdeal.τ Cert.ReferenceIdeal.sig) → Buf (Elt F) ℓ)

/-- Two launches on the same arguments. -/
def SameArgs : Prop := ∀ c : Dev nD,
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)

/-- The queries of a launch name rows of the two tables. -/
def InRange : Prop := ∀ d : Dev nD, Cert.Pre_in_range.fn (F := F) (m ((d : Thread nD τ).loc main_arg0)) (m ((d : Thread nD τ).loc main_arg1)) (m ((d : Thread nD τ).loc main_arg2)) = fun _ => 1#1

variable {m m'}

/-- The left rows agree, over any float values, -/
theorem lhs_agree (hp : InRange m) (ha : SameArgs m m') (d : Dev nD) : lhsR m' d = lhsV (R3 m) d := by
  obtain ⟨h0, h1, h2⟩ := ha d
  have hx := fun j => (small_of_pre _ _ _ (hp d) j).1
  rw [lhsV_eq m d hx]
  unfold lhsR
  rw [h0, h1]
  exact taking_eq _ rfl rfl rfl rfl rfl (by decide) (by decide) _ _ rfl _ _ hx

/-- the relation rows agree, -/
theorem rel_agree (hp : InRange m) (ha : SameArgs m m') (d : Dev nD) : relR m' d = relV (R3 m) d := by
  obtain ⟨h0, h1, h2⟩ := ha d
  have hx := fun j => (small_of_pre _ _ _ (hp d) j).2.1
  rw [relV_eq m d hx]
  unfold relR
  rw [h0, h2]
  exact taking_eq _ rfl rfl rfl rfl rfl (by decide) (by decide) _ _ rfl _ _ hx

/-- and the right rows agree. -/
theorem rhs_agree (hp : InRange m) (ha : SameArgs m m') (d : Dev nD) : rhsR m' d = rhsV (R3 m) d := by
  obtain ⟨h0, h1, h2⟩ := ha d
  have hx := fun j => (small_of_pre _ _ _ (hp d) j).2.2
  rw [rhsV_eq m d hx]
  unfold rhsR
  rw [h0, h1]
  exact taking_eq _ rfl rfl rfl rfl rfl (by decide) (by decide) _ _ rfl _ _ hx
end

/-- The scores agree over the real numbers: the two sums differ in the order of a product. -/
theorem scores_agree {m : (ℓ : Loc nD τ sig) → Buf (Elt Ideal) ℓ} {m' : (ℓ : Loc Cert.ReferenceIdeal.nD Cert.ReferenceIdeal.τ Cert.ReferenceIdeal.sig) → Buf (Elt Ideal) ℓ}
    (hp : InRange m) (ha : SameArgs m m') (d : Dev nD) : scoresR m' d = W5 m d (Proc.devRef .tc main_v21) := by
  rw [scores_eq m d]
  unfold scoresR
  rw [lhs_agree hp ha d, rel_agree hp ha d, (ha d).2.1]
  funext x
  obtain ⟨i, n, rfl⟩ : ∃ (i : Fin 1024) (n : Fin 100000), x = ix2 i n := ⟨x 0, x 1, eq_ix2 x⟩
  exact (dot_apply _ _ _ i n).trans (Finset.sum_congr rfl fun k _ => mul_comm (G := EReal) _ _)

/-- On queries in range the kernel and the reference, from the same arguments, return the same four arrays over the real
    numbers, and both leave their arguments as they were. -/
theorem algebraic : Cert.algebraic_KernelIdeal_ReferenceIdeal := by
  intro m g m' g' hp ha
  have hp' : InRange m := hp
  have ha' : SameArgs m m' := ha
  refine ⟨fun c => W5 m c (Proc.devRef .tc main_v21), fun c => lhsV (R3 m) c, fun c => relV (R3 m) c, fun c => rhsV (R3 m) c, ?_, ?_⟩
  · exact (θ_run Cert.KernelIdeal.defs _ _).mono (fun _ h c => h.1 c) (run_main m g (idxOK_of_pre m hp'))
  · exact (θ_run Cert.ReferenceIdeal.defs _ _).mono (fun _ h c =>
      ⟨(h c).1.trans (scores_agree hp' ha' c), (h c).2.1.trans (lhs_agree hp' ha' c), (h c).2.2.1.trans (rel_agree hp' ha' c), (h c).2.2.2.1.trans (rhs_agree hp' ha' c), (h c).2.2.2.2⟩) (ref_run m' g')

end Cert.Proof.Score

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- All the claims. -/
theorem claim : Cert.Claim := ⟨Cert.Kernel.Gen.facts, Cert.KernelIdeal.Gen.facts, Cert.ReferenceIdeal.Gen.facts, Cert.Pre_in_range.Gen.facts,
  Score.frame_k, Score.frame_ki, Score.frame_r, fun m ρ _ => Score.frame_r m ρ trivial, trivial, Score.algebraic⟩

end Cert.Proof

end
